-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S8192x512 : Shape := ⟨2, ![8192, 512]⟩
abbrev S256x8 : Shape := ⟨2, ![256, 8]⟩
abbrev S8 : Shape := ⟨1, ![8]⟩
abbrev S8x512x96 : Shape := ⟨3, ![8, 512, 96]⟩
abbrev S8x96 : Shape := ⟨2, ![8, 96]⟩
abbrev S_ : Shape := ⟨0, ![]⟩

class Facts : Prop where
  bcast_S_S256x8 : S_.BroadcastsInDim S256x8 (![] : Fin 0 → Fin S256x8.rank)
  reducesTo_S256x8_S_d0_1 : S256x8.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8192x512 .f32) (main_arg1 : FVec F S256x8 .f32) (main_arg2 : FVec F S8 .f32) (main_arg3 : FVec F S8x512x96 .f32) (main_arg4 : FVec F S8x96 .f32) : IVec S_ 1 :=
  let main_v0 : FVec F S256x8 .f32 := Host.absf main_arg1
  let main_cst : FVec F S_ .f32 := constant S_ .f32 0x7F800000#32
  let main_v1 : FVec F S256x8 .f32 := broadcastInDim S256x8 ![] bcast_S_S256x8 main_cst
  let main_v2 : IVec S256x8 1 := cmpf .olt main_v0 main_v1
  let main_c : IVec S_ 1 := constantI S_ 1 1#1
  let main_v3 : IVec S_ 1 := (fun x v => Host.reduce IntOp.andi x v reducesTo_S256x8_S_d0_1 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S8192x512 : Shape := ⟨2, ![8192, 512]⟩
abbrev S256x8 : Shape := ⟨2, ![256, 8]⟩
abbrev S8 : Shape := ⟨1, ![8]⟩
abbrev S8x512x96 : Shape := ⟨3, ![8, 512, 96]⟩
abbrev S8x96 : Shape := ⟨2, ![8, 96]⟩
abbrev S1024 : Shape := ⟨1, ![1024]⟩
abbrev S1x1024 : Shape := ⟨2, ![1, 1024]⟩
abbrev S512 : Shape := ⟨1, ![512]⟩
abbrev S512x1 : Shape := ⟨2, ![512, 1]⟩
abbrev S256 : Shape := ⟨1, ![256]⟩
abbrev S1x256 : Shape := ⟨2, ![1, 256]⟩
abbrev S_ : Shape := ⟨0, ![]⟩
abbrev S512x256 : Shape := ⟨2, ![512, 256]⟩
abbrev S512x512 : Shape := ⟨2, ![512, 512]⟩
abbrev S512x8x128 : Shape := ⟨3, ![512, 8, 128]⟩
abbrev S512x8x96 : Shape := ⟨3, ![512, 8, 96]⟩
abbrev S1 : Shape := ⟨1, ![1]⟩
abbrev S512x1024 : Shape := ⟨2, ![512, 1024]⟩
abbrev S8x128 : Shape := ⟨2, ![8, 128]⟩
abbrev S1x8 : Shape := ⟨2, ![1, 8]⟩
abbrev S8192x96 : Shape := ⟨2, ![8192, 96]⟩
abbrev S2048x512 : Shape := ⟨2, ![2048, 512]⟩
abbrev S2048x96 : Shape := ⟨2, ![2048, 96]⟩
abbrev S2048x1024 : Shape := ⟨2, ![2048, 1024]⟩
abbrev S2048x256 : Shape := ⟨2, ![2048, 256]⟩
abbrev S2048 : Shape := ⟨1, ![2048]⟩
abbrev S2048x1 : Shape := ⟨2, ![2048, 1]⟩
abbrev S2048x8 : Shape := ⟨2, ![2048, 8]⟩
abbrev S2048x128 : Shape := ⟨2, ![2048, 128]⟩

abbrev nBuf : Space → Nat
  | .hbm => 52
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S256x8, .f32⟩
  | .hbm, ⟨2, _⟩ => ⟨S8, .f32⟩
  | .hbm, ⟨3, _⟩ => ⟨S8x512x96, .f32⟩
  | .hbm, ⟨4, _⟩ => ⟨S8x96, .f32⟩
  | .hbm, ⟨5, _⟩ => ⟨S1024, .i32⟩
  | .hbm, ⟨6, _⟩ => ⟨S1x1024, .i32⟩
  | .hbm, ⟨7, _⟩ => ⟨S512, .i32⟩
  | .hbm, ⟨8, _⟩ => ⟨S512x1, .i32⟩
  | .hbm, ⟨9, _⟩ => ⟨S256, .i32⟩
  | .hbm, ⟨10, _⟩ => ⟨S1x256, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512x256, .i32⟩
  | .hbm, ⟨16, _⟩ => ⟨S512x256, .i32⟩
  | .hbm, ⟨17, _⟩ => ⟨S512x256, .i32⟩
  | .hbm, ⟨18, _⟩ => ⟨S_, .i32⟩
  | .hbm, ⟨19, _⟩ => ⟨S512x256, .i32⟩
  | .hbm, ⟨20, _⟩ => ⟨S512x256, .i32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x512, .f32⟩
  | .hbm, ⟨37, _⟩ => ⟨S_, .f32⟩
  | .hbm, ⟨38, _⟩ => ⟨S512x8x128, .f32⟩
  | .hbm, ⟨39, _⟩ => ⟨S512x8x96, .f32⟩
  | .hbm, ⟨40, _⟩ => ⟨S_, .i32⟩
  | .hbm, ⟨41, _⟩ => ⟨S1, .i32⟩
  | .hbm, ⟨42, _⟩ => ⟨S512x8x128, .f32⟩
  | .hbm, ⟨43, _⟩ => ⟨S512x1024, .f32⟩
  | .hbm, ⟨44, _⟩ => ⟨S_, .f32⟩
  | .hbm, ⟨45, _⟩ => ⟨S8x128, .f32⟩
  | .hbm, ⟨46, _⟩ => ⟨S_, .i32⟩
  | .hbm, ⟨47, _⟩ => ⟨S1, .i32⟩
  | .hbm, ⟨48, _⟩ => ⟨S8x128, .f32⟩
  | .hbm, ⟨49, _⟩ => ⟨S1x1024, .f32⟩
  | .hbm, ⟨50, _⟩ => ⟨S1x8, .f32⟩
  | .hbm, ⟨51, _⟩ => ⟨S8192x96, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x1024, .f32⟩
  | .local _ .vmem, ⟨4, _⟩ => ⟨S256x8, .f32⟩
  | .local _ .vmem, ⟨5, _⟩ => ⟨S1x8, .f32⟩
  | .local _ .vmem, ⟨6, _⟩ => ⟨S1x1024, .f32⟩
  | .local _ .vmem, ⟨7, _⟩ => ⟨S1x1024, .i32⟩
  | .local _ .vmem, ⟨8, _⟩ => ⟨S2048x96, .f32⟩
  | .local _ .vmem, ⟨9, _⟩ => ⟨S2048x96, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_call0_cst_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c_1 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst_2 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_cst_3 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_cst_4 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_cst_5 : Ref sig .tc := ⟨.hbm, 37, rfl⟩
abbrev main_call0_v25 : Ref sig .tc := ⟨.hbm, 38, rfl⟩
abbrev main_call0_v26 : Ref sig .tc := ⟨.hbm, 39, rfl⟩
abbrev main_call0_c_6 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_cst_7 : Ref sig .tc := ⟨.hbm, 44, rfl⟩
abbrev main_call0_v30 : Ref sig .tc := ⟨.hbm, 45, rfl⟩
abbrev main_call0_c_8 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_v0 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x512 : Shape := ⟨2, ![8192, 512]⟩
abbrev S256x8 : Shape := ⟨2, ![256, 8]⟩
abbrev S8 : Shape := ⟨1, ![8]⟩
abbrev S8x512x96 : Shape := ⟨3, ![8, 512, 96]⟩
abbrev S8x96 : Shape := ⟨2, ![8, 96]⟩
abbrev S_ : Shape := ⟨0, ![]⟩
abbrev S8192 : Shape := ⟨1, ![8192]⟩
abbrev S8192x1 : Shape := ⟨2, ![8192, 1]⟩
abbrev S512x256 : Shape := ⟨2, ![512, 256]⟩
abbrev S8192x256 : Shape := ⟨2, ![8192, 256]⟩
abbrev S8192x8 : Shape := ⟨2, ![8192, 8]⟩
abbrev S1x8 : Shape := ⟨2, ![1, 8]⟩
abbrev S8192x2 : Shape := ⟨2, ![8192, 2]⟩
abbrev S8192x8x96 : Shape := ⟨3, ![8192, 8, 96]⟩
abbrev S1x8x96 : Shape := ⟨3, ![1, 8, 96]⟩
abbrev S8192x2x1 : Shape := ⟨3, ![8192, 2, 1]⟩
abbrev S1 : Shape := ⟨1, ![1]⟩
abbrev S1x1x1 : Shape := ⟨3, ![1, 1, 1]⟩
abbrev S8192x2x96 : Shape := ⟨3, ![8192, 2, 96]⟩
abbrev S8192x96 : Shape := ⟨2, ![8192, 96]⟩

abbrev nBuf : Space → Nat
  | .hbm => 109
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x8, .f32⟩
  | .hbm, ⟨2, _⟩ => ⟨S8, .f32⟩
  | .hbm, ⟨3, _⟩ => ⟨S8x512x96, .f32⟩
  | .hbm, ⟨4, _⟩ => ⟨S8x96, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S512x256, .i32⟩
  | .hbm, ⟨14, _⟩ => ⟨S512x256, .i32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x256, .i32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S8192x256, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S512x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .i1⟩
  | .hbm, ⟨48, _⟩ => ⟨S_, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x256, .f32⟩
  | .hbm, ⟨53, _⟩ => ⟨S8192x256, .f32⟩
  | .hbm, ⟨54, _⟩ => ⟨S8192x8, .f32⟩
  | .hbm, ⟨55, _⟩ => ⟨S1x8, .f32⟩
  | .hbm, ⟨56, _⟩ => ⟨S8192x8, .f32⟩
  | .hbm, ⟨57, _⟩ => ⟨S8192x8, .f32⟩
  | .hbm, ⟨58, _⟩ => ⟨S_, .f32⟩
  | .hbm, ⟨59, _⟩ => ⟨S8192x8, .f32⟩
  | .hbm, ⟨60, _⟩ => ⟨S8192x8, .f32⟩
  | .hbm, ⟨61, _⟩ => ⟨S8192x2, .f32⟩
  | .hbm, ⟨62, _⟩ => ⟨S8192x2, .i32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x2, .f32⟩
  | .hbm, ⟨70, _⟩ => ⟨S8192x2, .f32⟩
  | .hbm, ⟨71, _⟩ => ⟨S8192x2, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x2, .f32⟩
  | .hbm, ⟨76, _⟩ => ⟨S8192x2, .f32⟩
  | .hbm, ⟨77, _⟩ => ⟨S8192x8x96, .f32⟩
  | .hbm, ⟨78, _⟩ => ⟨S1x8x96, .f32⟩
  | .hbm, ⟨79, _⟩ => ⟨S8192x8x96, .f32⟩
  | .hbm, ⟨80, _⟩ => ⟨S8192x8x96, .f32⟩
  | .hbm, ⟨81, _⟩ => ⟨S8192x2x1, .i32⟩
  | .hbm, ⟨82, _⟩ => ⟨S_, .i32⟩
  | .hbm, ⟨83, _⟩ => ⟨S8192x2x1, .i32⟩
  | .hbm, ⟨84, _⟩ => ⟨S8192x2x1, .i1⟩
  | .hbm, ⟨85, _⟩ => ⟨S_, .i32⟩
  | .hbm, ⟨86, _⟩ => ⟨S8192x2x1, .i32⟩
  | .hbm, ⟨87, _⟩ => ⟨S8192x2x1, .i32⟩
  | .hbm, ⟨88, _⟩ => ⟨S8192x2x1, .i32⟩
  | .hbm, ⟨89, _⟩ => ⟨S1, .i32⟩
  | .hbm, ⟨90, _⟩ => ⟨S_, .i32⟩
  | .hbm, ⟨91, _⟩ => ⟨S8192x2x1, .i32⟩
  | .hbm, ⟨92, _⟩ => ⟨S8192x2x1, .i1⟩
  | .hbm, ⟨93, _⟩ => ⟨S1x1x1, .i32⟩
  | .hbm, ⟨94, _⟩ => ⟨S8192x2x1, .i32⟩
  | .hbm, ⟨95, _⟩ => ⟨S8192x2x1, .i1⟩
  | .hbm, ⟨96, _⟩ => ⟨S8192x2x1, .i1⟩
  | .hbm, ⟨97, _⟩ => ⟨S_, .i1⟩
  | .hbm, ⟨98, _⟩ => ⟨S8192x2, .i1⟩
  | .hbm, ⟨99, _⟩ => ⟨S8192x2x96, .f32⟩
  | .hbm, ⟨100, _⟩ => ⟨S8192x2x96, .i1⟩
  | .hbm, ⟨101, _⟩ => ⟨S_, .f32⟩
  | .hbm, ⟨102, _⟩ => ⟨S8192x2x96, .f32⟩
  | .hbm, ⟨103, _⟩ => ⟨S8192x2x96, .f32⟩
  | .hbm, ⟨104, _⟩ => ⟨S8192x2x1, .f32⟩
  | .hbm, ⟨105, _⟩ => ⟨S8192x2x96, .f32⟩
  | .hbm, ⟨106, _⟩ => ⟨S8192x2x96, .f32⟩
  | .hbm, ⟨107, _⟩ => ⟨S_, .f32⟩
  | .hbm, ⟨108, _⟩ => ⟨S8192x96, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_call0_v0 : Ref sig .tc := ⟨.hbm, 49, rfl⟩
abbrev main_call0_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_values : Ref sig .tc := ⟨.hbm, 61, rfl⟩
abbrev main_indices : Ref sig .tc := ⟨.hbm, 62, rfl⟩
abbrev main_cst_10 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_c_1 : Ref sig .tc := ⟨.hbm, 89, rfl⟩
abbrev main_call1_c_2 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_c_3 : Ref sig .tc := ⟨.hbm, 97, rfl⟩
abbrev main_call1_v11 : Ref sig .tc := ⟨.hbm, 98, rfl⟩
abbrev main_call1_v12 : Ref sig .tc := ⟨.hbm, 99, rfl⟩
abbrev main_call1_v13 : Ref sig .tc := ⟨.hbm, 100, rfl⟩
abbrev main_call1_cst : Ref sig .tc := ⟨.hbm, 101, rfl⟩
abbrev main_call1_v14 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_13 : Ref sig .tc := ⟨.hbm, 107, rfl⟩
abbrev main_v63 : Ref sig .tc := ⟨.hbm, 108, rfl⟩

abbrev nD : Nat := 1
abbrev τ : Topo := Topo.v7x

variable {F : FTy → Type} [FloatOps F]
-- ==== Proof.Spec.lean ====
/-
  The row functions that the kernel and the reference are both reduced to, over the extended reals: the cosine and sine
  tables, a row's power at each frequency as the kernel and as the reference compute it, the powers divided by their sum,
  the gate scores, and the weighted sum of the two chosen experts as each of the two programs computes it.
-/
module

public import Idealize.ShloMosaic.PureOps.Ideal
public import Idealize.ShloMosaic.PureOps.Reduce
public import Idealize.ShloMosaic.Lib.SortFacts

@[expose] public section

noncomputable section

namespace Cert.Moe

open Idealize.ShloMosaic

/-- The cosine of the angle that sample `s` and frequency `k` make on a circle of 512 samples. -/
def cosT (s : Fin 512) (k : Fin 256) : ℝ := Real.cos (2 * Real.pi * ((s.val * k.val : ℕ) : ℝ) / 512)

/-- The sine of the same angle. -/
def sinT (s : Fin 512) (k : Fin 256) : ℝ := Real.sin (2 * Real.pi * ((s.val * k.val : ℕ) : ℝ) / 512)

/-- The powers of a row divided by their sum, a zero sum taken as one. -/
def shares (P : Fin 256 → EReal) (k : Fin 256) : EReal :=
  Ideal.div (P k) (if ∑ j, P j = 0 then 1 else ∑ j, P j)

/-- The kernel's powers: the row itself against tables scaled by `c`, frequency zero set to zero. -/
def kPower (c : ℝ) (x : Fin 512 → EReal) (k : Fin 256) : EReal :=
  if k.val = 0 then 0 else
    (∑ s, x s * ((cosT s k * c : ℝ) : EReal)) * (∑ s, x s * ((cosT s k * c : ℝ) : EReal))
      + (∑ s, x s * ((-sinT s k * c : ℝ) : EReal)) * (∑ s, x s * ((-sinT s k * c : ℝ) : EReal))

/-- A row less its mean. -/
def centred (x : Fin 512 → EReal) (s : Fin 512) : EReal := x s - Ideal.div (∑ j, x j) ((512 : ℝ) : EReal)

/-- The reference's powers: the centred row against the plain tables, each sum divided by `d`. -/
def rPower (d : ℝ) (x : Fin 512 → EReal) (k : Fin 256) : EReal :=
  Ideal.div (∑ s, centred x s * ((cosT s k : ℝ) : EReal)) (d : EReal)
      * Ideal.div (∑ s, centred x s * ((cosT s k : ℝ) : EReal)) (d : EReal)
    + Ideal.div (-∑ s, centred x s * ((sinT s k : ℝ) : EReal)) (d : EReal)
      * Ideal.div (-∑ s, centred x s * ((sinT s k : ℝ) : EReal)) (d : EReal)

/-- The score of expert `e`: the shares against the gate's column, and its bias. -/
def gate (p : Fin 256 → EReal) (W : Fin 256 → Fin 8 → EReal) (b : Fin 8 → EReal) (e : Fin 8) : EReal :=
  ∑ k, p k * W k e + b e

/-- The greatest of eight scores. -/
def topOf (g : Fin 8 → EReal) : EReal := Finset.univ.fold max ⊥ g

/-- The kernel's position of the value `M` among eight scores: the least index at which a score equals it. -/
def posOf (g : Fin 8 → EReal) (M : EReal) : BitVec 32 :=
  Finset.univ.fold IntOp.minsi 2147483647#32 fun x => if g x = M then BitVec.ofNat 32 x.val else 8#32

/-- The scores with the one at position `a` struck out. -/
def struck (g : Fin 8 → EReal) (a : BitVec 32) (x : Fin 8) : EReal :=
  Scalar.select (IntOp.cmpi .eq (BitVec.ofNat 32 x.val) a) ⊥ (g x)

/-- The kernel's weight of expert `e`, from the two positions and the exponential of the second score less the first. -/
def weight (a₁ a₂ : BitVec 32) (t : EReal) (e : Fin 8) : EReal :=
  Scalar.select (IntOp.cmpi .eq (BitVec.ofNat 32 e.val) a₁) (Ideal.div 1 (1 + t)) 0
    + Scalar.select (IntOp.cmpi .eq (BitVec.ofNat 32 e.val) a₂) (Ideal.div t (1 + t)) 0

/-- The kernel's mix of eight expert outputs `y` under the scores `g`. -/
def kMix (g y : Fin 8 → EReal) : EReal :=
  ∑ e, y e * weight (posOf g (topOf g)) (posOf (struck g (posOf g (topOf g))) (topOf (struck g (posOf g (topOf g)))))
    (Ideal.exp (topOf (struck g (posOf g (topOf g))) - topOf g)) e

/-- The reference's order of the experts: a stable sort by the score, greater first. -/
def pick (g : Fin 8 → EReal) : Fin 8 → Fin 8 := sortedFrom fun k k' => Ideal.cmpTotal .gt (g k) (g k') == 1#1

/-- The reference's two chosen scores. -/
def chosen (g : Fin 8 → EReal) (r : Fin 2) : EReal := g (pick g ⟨r.val, by omega⟩)

/-- The exponentials of the two chosen scores less their greatest. -/
def expOf (g : Fin 8 → EReal) (r : Fin 2) : EReal :=
  Ideal.exp (chosen g r - max ⊥ (Finset.univ.fold max ⊥ (chosen g)))

/-- The reference's mix of eight expert outputs `y` under the scores `g`. -/
def rMix (g y : Fin 8 → EReal) : EReal :=
  ∑ r : Fin 2, Ideal.div (expOf g r) (∑ q : Fin 2, expOf g q) * y (pick g ⟨r.val, by omega⟩)

/-- The output of expert `e` at lane `o` for a row. -/
def expert (x : Fin 512 → EReal) (We : Fin 8 → Fin 512 → Fin 96 → EReal) (be : Fin 8 → Fin 96 → EReal) (o : Fin 96) (e : Fin 8) :
    EReal := ∑ s, x s * We e s o + be e o

/-- The kernel's result at row `r` and lane `o`. -/
def kOut (c : ℝ) (x : Fin 8192 → Fin 512 → EReal) (W : Fin 256 → Fin 8 → EReal) (b : Fin 8 → EReal)
    (We : Fin 8 → Fin 512 → Fin 96 → EReal) (be : Fin 8 → Fin 96 → EReal) (r : Fin 8192) (o : Fin 96) : EReal :=
  kMix (gate (shares (kPower c (x r))) W b) (expert (x r) We be o)

/-- The reference's result at row `r` and lane `o`. -/
def rOut (d : ℝ) (x : Fin 8192 → Fin 512 → EReal) (W : Fin 256 → Fin 8 → EReal) (b : Fin 8 → EReal)
    (We : Fin 8 → Fin 512 → Fin 96 → EReal) (be : Fin 8 → Fin 96 → EReal) (r : Fin 8192) (o : Fin 96) : EReal :=
  rMix (gate (shares (rPower d (x r))) W b) (expert (x r) We be o)

end Cert.Moe

end
-- ==== Proof.Spectrum.lean ====
/-
  The spectrum: the kernel's normalized powers of a row are the reference's normalized powers of the centred row. On a row
  of reals, the columns of the tables sum to zero but for frequency zero, so the mean only touches frequency zero, and the
  tables' scale cancels in the quotient. On a row with an infinite entry every share is zero on both sides.
-/
module

public import proofs.«01_k».proof.Proof.Spec
public import Mathlib.Algebra.Ring.GeomSum
public import Mathlib.Analysis.SpecialFunctions.Trigonometric.Basic
public import Mathlib.Tactic.FieldSimp
public import Mathlib.Tactic.Positivity
public import Mathlib.Tactic.Ring

@[expose] public section

noncomputable section

namespace Cert.Moe

open Idealize.ShloMosaic

/-! ### The tables -/

/-- The angle of frequency `k` at the first sample. -/
def angle (k : Fin 256) : ℝ := 2 * Real.pi * (k.val : ℝ) / 512

theorem rot (s : Fin 512) (k : Fin 256) :
    Complex.exp ((angle k : ℂ) * Complex.I) ^ s.val
      = Complex.exp (((2 * Real.pi * ((s.val * k.val : ℕ) : ℝ) / 512 : ℝ) : ℂ) * Complex.I) := by
  rw [← Complex.exp_nat_mul]
  congr 1
  unfold angle
  push_cast
  ring

/-- A full turn of equal steps sums to zero, unless the step is none at all. -/
theorem sum_rot (k : Fin 256) (hk : k.val ≠ 0) : ∑ s : Fin 512, Complex.exp ((angle k : ℂ) * Complex.I) ^ s.val = 0 := by
  have hk0 : (0 : ℝ) < (k.val : ℝ) := by exact_mod_cast Nat.pos_of_ne_zero hk
  have hk1 : (k.val : ℝ) < 512 := by exact_mod_cast (by omega : k.val < 512)
  have hpos : 0 < angle k := by unfold angle; have := Real.pi_pos; positivity
  have hlt : angle k < 2 * Real.pi := by
    unfold angle
    rw [div_lt_iff₀ (by norm_num)]
    have := Real.pi_pos
    nlinarith
  have hne : Complex.exp ((angle k : ℂ) * Complex.I) ≠ 1 := by
    intro h
    have h := congrArg Complex.re h
    rw [Complex.exp_ofReal_mul_I_re, Complex.one_re, Real.cos_eq_one_iff_of_lt_of_lt (by linarith) hlt] at h
    exact hpos.ne' h
  rw [Fin.sum_univ_eq_sum_range (fun i => Complex.exp ((angle k : ℂ) * Complex.I) ^ i)]
  have hg := geom_sum_mul (Complex.exp ((angle k : ℂ) * Complex.I)) 512
  have h1 : Complex.exp ((angle k : ℂ) * Complex.I) ^ 512 = 1 := by
    rw [← Complex.exp_nat_mul]
    have e : ((512 : ℕ) : ℂ) * ((angle k : ℂ) * Complex.I) = (k.val : ℕ) * (2 * Real.pi * Complex.I) := by
      unfold angle
      push_cast
      ring
    rw [e, Complex.exp_nat_mul, Complex.exp_two_pi_mul_I, one_pow]
  rw [h1, sub_self] at hg
  exact (mul_eq_zero.1 hg).resolve_right (sub_ne_zero.2 hne)

/-- A cosine column sums to zero, frequency zero aside. -/
theorem sum_cosT (k : Fin 256) (hk : k.val ≠ 0) : ∑ s, cosT s k = 0 := by
  have h := congrArg Complex.re (sum_rot k hk)
  rw [Complex.re_sum] at h
  simp only [rot, Complex.exp_ofReal_mul_I_re, Complex.zero_re] at h
  exact h

/-- A sine column sums to zero. -/
theorem sum_sinT (k : Fin 256) (hk : k.val ≠ 0) : ∑ s, sinT s k = 0 := by
  have h := congrArg Complex.im (sum_rot k hk)
  rw [Complex.im_sum] at h
  simp only [rot, Complex.exp_ofReal_mul_I_im, Complex.zero_im] at h
  exact h

/-- Reducing the product of sample and frequency by whole turns keeps the cosine. -/
theorem cosT_rem (s : Fin 512) (k : Fin 256) :
    Real.cos (2 * Real.pi * ((s.val * k.val % 512 : ℕ) : ℝ) / 512) = cosT s k := by
  unfold cosT
  rw [← Real.cos_add_nat_mul_two_pi _ (s.val * k.val / 512)]
  congr 1
  have h : ((s.val * k.val : ℕ) : ℝ) = ((s.val * k.val % 512 + 512 * (s.val * k.val / 512) : ℕ) : ℝ) := by
    rw [Nat.mod_add_div]
  rw [h]
  push_cast
  ring

/-- Reducing the product of sample and frequency by whole turns keeps the sine. -/
theorem sinT_rem (s : Fin 512) (k : Fin 256) :
    Real.sin (2 * Real.pi * ((s.val * k.val % 512 : ℕ) : ℝ) / 512) = sinT s k := by
  unfold sinT
  rw [← Real.sin_add_nat_mul_two_pi _ (s.val * k.val / 512)]
  congr 1
  have h : ((s.val * k.val : ℕ) : ℝ) = ((s.val * k.val % 512 + 512 * (s.val * k.val / 512) : ℕ) : ℝ) := by
    rw [Nat.mod_add_div]
  rw [h]
  push_cast
  ring

theorem cosT_zero (s : Fin 512) (k : Fin 256) (hk : k.val = 0) : cosT s k = 1 := by simp [cosT, hk]
theorem sinT_zero (s : Fin 512) (k : Fin 256) (hk : k.val = 0) : sinT s k = 0 := by simp [sinT, hk]
theorem cosT_first (k : Fin 256) : cosT 0 k = 1 := by simp [cosT]

theorem cos_or_sin (s : Fin 512) (k : Fin 256) : cosT s k ≠ 0 ∨ sinT s k ≠ 0 := by
  by_contra h
  rw [not_or, not_not, not_not] at h
  have := Real.cos_sq_add_sin_sq (2 * Real.pi * ((s.val * k.val : ℕ) : ℝ) / 512)
  rw [show Real.cos _ = 0 from h.1, show Real.sin _ = 0 from h.2] at this
  norm_num at this

/-! ### Rows of reals -/

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem div_coe (a d : ℝ) (hd : d ≠ 0) : Ideal.div (a : EReal) (d : EReal) = ((a / d : ℝ) : EReal) := by
  unfold Ideal.div
  rw [if_neg (by exact_mod_cast hd), ← EReal.coe_inv, ← EReal.coe_mul, div_eq_mul_inv]

/-- The unscaled power of a row of reals. -/
def power (r : Fin 512 → ℝ) (k : Fin 256) : ℝ :=
  if k.val = 0 then 0 else (∑ s, r s * cosT s k) ^ 2 + (∑ s, r s * sinT s k) ^ 2

theorem power_nonneg (r : Fin 512 → ℝ) (k : Fin 256) : 0 ≤ power r k := by
  unfold power
  split <;> positivity

theorem kPower_real (c : ℝ) (r : Fin 512 → ℝ) (k : Fin 256) :
    kPower c (fun s => (r s : EReal)) k = ((c ^ 2 * power r k : ℝ) : EReal) := by
  unfold kPower power
  by_cases hk : k.val = 0
  · rw [if_pos hk, if_pos hk]; simp
  · rw [if_neg hk, if_neg hk]
    simp only [← EReal.coe_mul, coe_sum, ← EReal.coe_add]
    congr 1
    have h1 : ∑ s, r s * (cosT s k * c) = c * ∑ s, r s * cosT s k := by
      rw [Finset.mul_sum]; exact Finset.sum_congr rfl fun s _ => by ring
    have h2 : ∑ s, r s * (-sinT s k * c) = -c * ∑ s, r s * sinT s k := by
      rw [Finset.mul_sum]; exact Finset.sum_congr rfl fun s _ => by ring
    rw [h1, h2]
    ring

theorem rPower_real (d : ℝ) (hd : d ≠ 0) (r : Fin 512 → ℝ) (k : Fin 256) :
    rPower d (fun s => (r s : EReal)) k = (((d⁻¹) ^ 2 * power r k : ℝ) : EReal) := by
  have hc : ∀ s, centred (fun s => (r s : EReal)) s = ((r s - (∑ j, r j) / 512 : ℝ) : EReal) := by
    intro s
    unfold centred
    rw [coe_sum, div_coe _ _ (by norm_num), ← EReal.coe_sub]
  unfold rPower
  simp only [hc, ← EReal.coe_mul, coe_sum, ← EReal.coe_neg, div_coe _ _ hd, ← EReal.coe_add]
  congr 1
  have h1 : ∑ s, (r s - (∑ j, r j) / 512) * cosT s k = ∑ s, r s * cosT s k - (∑ j, r j) / 512 * ∑ s, cosT s k := by
    rw [Finset.mul_sum, ← Finset.sum_sub_distrib]; exact Finset.sum_congr rfl fun s _ => by ring
  have h2 : ∑ s, (r s - (∑ j, r j) / 512) * sinT s k = ∑ s, r s * sinT s k - (∑ j, r j) / 512 * ∑ s, sinT s k := by
    rw [Finset.mul_sum, ← Finset.sum_sub_distrib]; exact Finset.sum_congr rfl fun s _ => by ring
  rw [h1, h2]
  unfold power
  by_cases hk : k.val = 0
  · rw [if_pos hk]
    simp only [cosT_zero _ k hk, sinT_zero _ k hk, mul_one, mul_zero, Finset.sum_const_zero, Finset.sum_const,
      Finset.card_univ, Fintype.card_fin, nsmul_eq_mul]
    push_cast
    ring
  · rw [if_neg hk, sum_cosT k hk, sum_sinT k hk]
    field_simp
    ring

/-- The shares do not depend on the powers' common scale, and are real. -/
theorem shares_scale (a : ℝ) (ha : 0 < a) (B : Fin 256 → ℝ) (hB : ∀ k, 0 ≤ B k) (k : Fin 256) :
    shares (fun k => ((a * B k : ℝ) : EReal)) k = ((B k / ∑ j, B j : ℝ) : EReal) := by
  unfold shares
  rw [coe_sum, ← Finset.mul_sum]
  by_cases h : ∑ j, B j = 0
  · have hz := (Finset.sum_eq_zero_iff_of_nonneg fun j _ => hB j).1 h k (Finset.mem_univ k)
    have := div_coe 0 1 one_ne_zero
    rw [if_pos (by rw [h]; simp)]
    simp only [hz, h]
    simpa using this
  · have hz : a * ∑ j, B j ≠ 0 := mul_ne_zero ha.ne' h
    rw [if_neg (by exact_mod_cast hz), div_coe _ _ hz, mul_div_mul_left _ _ ha.ne']

/-! ### Rows with an infinite entry -/

/-- An infinite value. -/
def Inf (v : EReal) : Prop := v = ⊤ ∨ v = ⊥

theorem Inf.add_left {a : EReal} (h : Inf a) (b : EReal) : Inf (a + b) := by
  rcases h with rfl | rfl
  · induction b <;> simp [Inf]
  · simp [Inf]

theorem Inf.add_right {a : EReal} (h : Inf a) (b : EReal) : Inf (b + a) := by
  rw [add_comm]; exact h.add_left b

theorem Inf.neg {a : EReal} (h : Inf a) : Inf (-a) := by
  rcases h with rfl | rfl <;> simp [Inf]

theorem Inf.mul_real {a : EReal} (h : Inf a) {r : ℝ} (hr : r ≠ 0) : Inf (a * (r : EReal)) := by
  rcases lt_or_gt_of_ne hr with l | l
  · rcases h with rfl | rfl
    · exact Or.inr (EReal.top_mul_coe_of_neg l)
    · exact Or.inl (EReal.bot_mul_coe_of_neg l)
  · rcases h with rfl | rfl
    · exact Or.inl (EReal.top_mul_coe_of_pos l)
    · exact Or.inr (EReal.bot_mul_coe_of_pos l)

theorem Inf.div_real {a : EReal} (h : Inf a) {d : ℝ} (hd : d ≠ 0) : Inf (Ideal.div a (d : EReal)) := by
  unfold Ideal.div
  rw [if_neg (by exact_mod_cast hd), ← EReal.coe_inv]
  exact h.mul_real (inv_ne_zero hd)

theorem Inf.sum {ι : Type} {S : Finset ι} {f : ι → EReal} {i : ι} (hi : i ∈ S) (h : Inf (f i)) : Inf (∑ j ∈ S, f j) := by
  classical
  rw [← Finset.add_sum_erase S f hi]
  exact h.add_left _

theorem Inf.sq {a : EReal} (h : Inf a) : a * a = ⊤ := by
  rcases h with rfl | rfl <;> simp

theorem sq_ne_bot (v : EReal) : v * v ≠ ⊥ := by
  induction v with
  | bot => simp
  | top => simp
  | coe r => rw [← EReal.coe_mul]; exact EReal.coe_ne_bot _

theorem sq_add_left {a : EReal} (h : Inf a) (b : EReal) : a * a + b * b = ⊤ := by
  rw [h.sq, EReal.top_add_of_ne_bot (sq_ne_bot b)]

theorem sq_add_right {b : EReal} (h : Inf b) (a : EReal) : a * a + b * b = ⊤ := by
  rw [add_comm]; exact sq_add_left h a

/-- A quotient by an infinite value is zero. -/
theorem div_inf (v : EReal) {w : EReal} (h : Inf w) : Ideal.div v w = 0 := by
  unfold Ideal.div
  rcases h with rfl | rfl <;> simp

/-- Powers one of which is infinite have shares that are all zero. -/
theorem shares_inf {P : Fin 256 → EReal} {j : Fin 256} (h : Inf (P j)) (k : Fin 256) : shares P k = 0 := by
  have hs : Inf (∑ j, P j) := Inf.sum (Finset.mem_univ j) h
  unfold shares
  rw [if_neg (by rcases hs with e | e <;> rw [e] <;> simp)]
  exact div_inf _ hs

theorem kPower_inf (c : ℝ) (hc : c ≠ 0) {x : Fin 512 → EReal} {s : Fin 512} (h : Inf (x s)) (k : Fin 256) (hk : k.val ≠ 0) :
    kPower c x k = ⊤ := by
  unfold kPower
  rw [if_neg hk]
  rcases cos_or_sin s k with e | e
  · exact sq_add_left (Inf.sum (f := fun s => x s * ((cosT s k * c : ℝ) : EReal)) (Finset.mem_univ s)
      (h.mul_real (mul_ne_zero e hc))) _
  · exact sq_add_right (Inf.sum (f := fun s => x s * ((-sinT s k * c : ℝ) : EReal)) (Finset.mem_univ s)
      (h.mul_real (mul_ne_zero (neg_ne_zero.2 e) hc))) _

theorem rPower_inf (d : ℝ) (hd : d ≠ 0) {x : Fin 512 → EReal} {s : Fin 512} (h : Inf (x s)) (k : Fin 256) :
    rPower d x k = ⊤ := by
  have hm : Inf (Ideal.div (∑ j, x j) ((512 : ℝ) : EReal)) :=
    (Inf.sum (Finset.mem_univ s) h).div_real (by norm_num)
  have hc : Inf (centred x 0) := by
    unfold centred
    rw [sub_eq_add_neg]
    exact hm.neg.add_right _
  have ht : Inf (centred x 0 * ((cosT 0 k : ℝ) : EReal)) := hc.mul_real (by rw [cosT_first]; exact one_ne_zero)
  unfold rPower
  exact sq_add_left ((Inf.sum (f := fun s => centred x s * ((cosT s k : ℝ) : EReal)) (Finset.mem_univ 0) ht).div_real hd) _

/-! ### The equation -/

theorem row_cases (x : Fin 512 → EReal) : (∃ r : Fin 512 → ℝ, x = fun s => (r s : EReal)) ∨ ∃ s, Inf (x s) := by
  by_cases h : ∃ s, Inf (x s)
  · exact Or.inr h
  · refine Or.inl ⟨fun s => (x s).toReal, funext fun s => ?_⟩
    have hs : ¬ Inf (x s) := fun e => h ⟨s, e⟩
    rw [EReal.coe_toReal (fun e => hs (Or.inl e)) (fun e => hs (Or.inr e))]

/-- THE SPECTRUM: the kernel's shares of a row are the reference's, for every row of extended reals. -/
theorem shares_eq (c d : ℝ) (hc : c ≠ 0) (hd : d ≠ 0) (x : Fin 512 → EReal) :
    shares (kPower c x) = shares (rPower d x) := by
  funext k
  rcases row_cases x with ⟨r, rfl⟩ | ⟨s, hs⟩
  · rw [funext (kPower_real c r), funext (rPower_real d hd r), shares_scale _ (by positivity) _ (power_nonneg r),
      shares_scale _ (by positivity) _ (power_nonneg r)]
  · rw [shares_inf (j := 1) (Or.inl (kPower_inf c hc hs 1 (by decide))), shares_inf (j := 1) (Or.inl (rPower_inf d hd hs 1))]

/-- The shares of a row are real. -/
theorem shares_real (c : ℝ) (hc : c ≠ 0) (x : Fin 512 → EReal) (k : Fin 256) : ∃ r : ℝ, shares (kPower c x) k = r := by
  rcases row_cases x with ⟨r, rfl⟩ | ⟨s, hs⟩
  · exact ⟨_, by rw [funext (kPower_real c r), shares_scale _ (by positivity) _ (power_nonneg r)]⟩
  · exact ⟨0, by rw [shares_inf (j := 1) (Or.inl (kPower_inf c hc hs 1 (by decide)))]; rfl⟩

/-- Scores of real shares under a real gate are real. -/
theorem gate_real {p : Fin 256 → EReal} {W : Fin 256 → Fin 8 → EReal} {b : Fin 8 → EReal} (hp : ∀ k, ∃ r : ℝ, p k = r)
    (hW : ∀ k e, ∃ r : ℝ, W k e = r) (hb : ∀ e, ∃ r : ℝ, b e = r) (e : Fin 8) : ∃ r : ℝ, gate p W b e = r := by
  choose p' hp using hp
  choose W' hW using hW
  choose b' hb using hb
  refine ⟨∑ k, p' k * W' k e + b' e, ?_⟩
  unfold gate
  simp only [hp, hW, hb, ← EReal.coe_mul, coe_sum, ← EReal.coe_add]

end Cert.Moe

end
-- ==== Proof.Words.lean ====
/-
  The words of the two programs read as numbers: float literals, the product of a sample and a frequency and its remainder
  by 512, and the angle that both programs compute from such a word.
-/
module

public import proofs.«01_k».proof.Proof.Spectrum

@[expose] public section

noncomputable section

namespace Cert.Moe

open Idealize.ShloMosaic

theorem lit_bot : Ideal.ofBits .f32 4286578688#32 = ⊥ := by simp [Ideal.ofBits, Ideal.ieee]

theorem lit_two : Ideal.ofBits .f32 1073741824#32 = ((2 : ℝ) : EReal) := by
  simp [Ideal.ofBits, Ideal.ieee, -EReal.coe_mul]
  norm_num

theorem lit_512 : Ideal.ofBits .f32 1140850688#32 = ((512 : ℝ) : EReal) := by
  simp [Ideal.ofBits, Ideal.ieee, -EReal.coe_mul]
  norm_num

theorem lit_neg_one : Ideal.ofBits .f32 3212836864#32 = ((-1 : ℝ) : EReal) := by
  simp [Ideal.ofBits, Ideal.ieee, -EReal.coe_mul]
  norm_num

/-- The arc cosine of minus one is π. -/
theorem acos_neg_one : Ideal.acos ((-1 : ℝ) : EReal) = ((Real.pi : ℝ) : EReal) := by
  rw [Ideal.acos_coe, if_pos (by norm_num), Real.arccos_neg_one]

theorem prod_lt (s : Fin 512) (k : Fin 256) : s.val * k.val < 131072 := by
  have h1 := s.isLt
  have h2 := k.isLt
  nlinarith

/-- The product of a sample and a frequency, as a word. -/
theorem prod_eq (s : Fin 512) (k : Fin 256) :
    IntOp.muli (BitVec.ofNat 32 s.val) (BitVec.ofNat 32 k.val) = BitVec.ofNat 32 (s.val * k.val) := by
  rw [BitVec.ofNat_mul]
  rfl

/-- A small natural number's word is that number. -/
theorem toInt_of_lt (n : ℕ) (h : n < 131072) : (BitVec.ofNat 32 n).toInt = (n : ℤ) := by
  rw [BitVec.toInt_ofNat', Int.bmod_eq_of_le (by omega) (by omega)]

/-- The product, as an integer. -/
theorem prod_word (s : Fin 512) (k : Fin 256) :
    (IntOp.muli (BitVec.ofNat 32 s.val) (BitVec.ofNat 32 k.val)).toInt = ((s.val * k.val : ℕ) : ℤ) := by
  rw [prod_eq, toInt_of_lt _ (prod_lt s k)]

/-- Its remainder by 512, as an integer. -/
theorem rem_word (s : Fin 512) (k : Fin 256) :
    (IntOp.remsi .host (IntOp.muli (BitVec.ofNat 32 s.val) (BitVec.ofNat 32 k.val)) 512#32).toInt
      = ((s.val * k.val % 512 : ℕ) : ℤ) := by
  have hlt := prod_lt s k
  rw [prod_eq]
  generalize s.val * k.val = n at hlt
  unfold IntOp.remsi
  rw [if_neg (by rintro (h | ⟨-, h⟩) <;> exact absurd h (by decide)), BitVec.toInt_srem, toInt_of_lt n hlt]
  show (n : ℤ).tmod 512 = _
  rw [Int.tmod_eq_emod_of_nonneg (by omega)]
  norm_cast

/-- The angle as the programs compute it from a product of sample and frequency. -/
theorem angle_word (w : BitVec 32) :
    Ideal.div (Ideal.ofBits .f32 1073741824#32 * Ideal.acos (Ideal.ofBits .f32 3212836864#32)
        * FloatOps.sitofp (F := Ideal) .f32 w) (Ideal.ofBits .f32 1140850688#32)
      = ((2 * Real.pi * (w.toInt : ℝ) / 512 : ℝ) : EReal) := by
  rw [lit_two, lit_512, lit_neg_one, acos_neg_one]
  show Ideal.div (((2 : ℝ) : EReal) * ((Real.pi : ℝ) : EReal) * ((w.toInt : ℝ) : EReal)) ((512 : ℝ) : EReal) = _
  rw [← EReal.coe_mul, ← EReal.coe_mul, div_coe _ _ (by norm_num)]

end Cert.Moe

end
-- ==== Proof.KernelBody.lean ====
/-
  What one grid point of the kernel computes: each entry of the block it writes is the kernel's mix, under the row's gate
  scores, of the eight experts' outputs at that lane.
-/
module

public import proofs.«01_k».proof.Proof.Gen.KernelIdeal.Frame
public import proofs.«01_k».proof.Proof.Words
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Idealize.ShloMosaic Cert.Moe

/-- Lane `o` of expert `e` among the experts' lanes laid side by side. -/
def lane (e : Fin 8) (o : Fin 96) : Fin 1024 := ⟨128 * e.val + o.val, by omega⟩

/-- The experts' outputs before the mix. -/
theorem pay2_apply (v0 : Vec Ideal S2048x512 .f32) (v4 : Vec Ideal S512x1024 .f32) (v7 : Vec Ideal S1x1024 .f32)
    (p : Fin 2048) (q : Fin 1024) :
    k0_pay2 v0 v4 v7 (ix2 p q) = ∑ x : Fin 512, v0 (ix2 p x) * v4 (ix2 x q) + v7 (ix2 0 q) := by
  pointwise [k0_pay2]

/-- The gate scores of a row, the table `v1` holding the scaled cosines beside the scaled sines. -/
theorem pay3_apply (c : ℝ) (v0 : Vec Ideal S2048x512 .f32) (v1 : Vec Ideal S512x512 .f32) (v29 : Vec Ideal S256x8 .f32)
    (v31 : Vec Ideal S1x8 .f32)
    (hc : ∀ (s : Fin 512) (k : Fin 256), v1 (ix2 s ⟨k.val, by omega⟩) = ((cosT s k * c : ℝ) : EReal))
    (hs : ∀ (s : Fin 512) (k : Fin 256), v1 (ix2 s ⟨256 + k.val, by omega⟩) = ((-sinT s k * c : ℝ) : EReal))
    (p : Fin 2048) (e : Fin 8) :
    k0_pay3 v0 v1 v29 v31 (ix2 p e)
      = gate (shares (kPower c fun s => v0 (ix2 p s))) (fun k e => v29 (ix2 k e)) (fun e => v31 (ix2 0 e)) e := by
  have hk : ∀ (k : Fin 256) (a : EReal), Scalar.select (IntOp.cmpi .eq (BitVec.ofNat 32 k.val) 0#32) 0 a
      = if k.val = 0 then 0 else a := by
    intro k a
    have h : IntOp.cmpi .eq (BitVec.ofNat 32 k.val) 0#32 = if k.val = 0 then 1#1 else 0#1 := by
      revert k; decide +kernel
    rw [h]
    by_cases h : k.val = 0 <;> simp [h, Scalar.select]
  pointwise [k0_pay3]
  simp only [hc, hs, hk]
  rfl

/-- The greatest score of a row. -/
theorem pay4_apply (v0 : Vec Ideal S2048x512 .f32) (v1 : Vec Ideal S512x512 .f32) (v29 : Vec Ideal S256x8 .f32)
    (v31 : Vec Ideal S1x8 .f32) (p : Fin 2048) (e : Fin 1) :
    k0_pay4 v0 v1 v29 v31 (ix2 p e) = topOf fun x => k0_pay3 v0 v1 v29 v31 (ix2 p x) := by
  pointwise [k0_pay4]
  rw [lit_bot]
  rfl

/-- An expert's output under its weight. -/
theorem pay5_apply (v10 : FVec Ideal S2048x1024 .f32) (v34 : FVec Ideal S2048x8 .f32) (v35 : IVec S2048x8 32)
    (v37 : FVec Ideal S2048x1 .f32) (v63 : Vec Ideal S1x1024 .i32) (p : Fin 2048) (q : Fin 1024) (e : Fin 8)
    (g : Fin 8 → EReal) (h34 : ∀ x : Fin 8, v34 (ix2 p x) = g x)
    (h35 : ∀ x : Fin 8, v35 (ix2 p x) = BitVec.ofNat 32 x.val) (h37 : v37 (ix2 p 0) = topOf g)
    (h63 : v63 (ix2 0 q) = BitVec.ofNat 32 e.val) :
    k0_pay5 v10 v34 v35 v37 v63 (ix2 p q) = v10 (ix2 p q)
      * weight (posOf g (topOf g)) (posOf (struck g (posOf g (topOf g))) (topOf (struck g (posOf g (topOf g)))))
          (Ideal.exp (topOf (struck g (posOf g (topOf g))) - topOf g)) e := by
  pointwise [k0_pay5]
  simp only [h34, h35, h37, h63, lit_bot]
  rfl

/-- THE BLOCK: an entry of what a point writes is the kernel's mix of the eight experts' outputs at its lane. -/
theorem out_apply (c : ℝ) (x0 : Vec Ideal S2048x512 .f32) (x1 : Vec Ideal S512x512 .f32) (x2 : Vec Ideal S512x1024 .f32)
    (x3 : Vec Ideal S256x8 .f32) (x4 : Vec Ideal S1x8 .f32) (x5 : Vec Ideal S1x1024 .f32) (x6 : Vec Ideal S1x1024 .i32)
    (hc : ∀ (s : Fin 512) (k : Fin 256), x1 (ix2 s ⟨k.val, by omega⟩) = ((cosT s k * c : ℝ) : EReal))
    (hs : ∀ (s : Fin 512) (k : Fin 256), x1 (ix2 s ⟨256 + k.val, by omega⟩) = ((-sinT s k * c : ℝ) : EReal))
    (hid : ∀ (e : Fin 8) (o : Fin 96), x6 (ix2 0 (lane e o)) = BitVec.ofNat 32 e.val) (p : Fin 2048) (o : Fin 96) :
    out0_7 x0 x1 x2 x3 x4 x5 x6 (ix2 p o)
      = kMix (gate (shares (kPower c fun s => x0 (ix2 p s))) (fun k e => x3 (ix2 k e)) (fun e => x4 (ix2 0 e)))
          (fun e => ∑ s : Fin 512, x0 (ix2 p s) * x2 (ix2 s (lane e o)) + x5 (ix2 0 (lane e o))) := by
  have e9 : k0_pay9 x0 x1 x2 x3 x4 x5 x6 = k0_pay2 x0 x2 x5 := by
    unfold k0_pay9
    rw [View.ld_unit_lit _ x0 (by decide), View.ld_unit_lit _ x2 (by decide), View.ld_unit_lit _ x5 (by decide)]
  have e10 : k0_pay10 x0 x1 x2 x3 x4 x5 x6 = k0_pay3 x0 x1 x3 x4 := by
    unfold k0_pay10
    rw [View.ld_unit_lit _ x0 (by decide), View.ld_unit_lit _ x1 (by decide), View.ld_unit_lit _ x3 (by decide), View.ld_unit_lit _ x4 (by decide)]
  have e11 : k0_pay11 x0 x1 x2 x3 x4 x5 x6 = k0_pay4 x0 x1 x3 x4 := by
    unfold k0_pay11
    rw [View.ld_unit_lit _ x0 (by decide), View.ld_unit_lit _ x1 (by decide), View.ld_unit_lit _ x3 (by decide), View.ld_unit_lit _ x4 (by decide)]
  have h5 : ∀ e : Fin 8, k0_pay5 (k0_pay9 x0 x1 x2 x3 x4 x5 x6) (k0_pay10 x0 x1 x2 x3 x4 x5 x6) (k0_pay8 x0 x1 x2 x3 x4 x5 x6)
      (k0_pay11 x0 x1 x2 x3 x4 x5 x6) x6 (ix2 p (lane e o)) = _ := fun e =>
    pay5_apply _ _ _ _ _ p (lane e o) e
      (gate (shares (kPower c fun s => x0 (ix2 p s))) (fun k e => x3 (ix2 k e)) (fun e => x4 (ix2 0 e)))
      (fun x => by rw [e10]; exact pay3_apply c x0 x1 x3 x4 hc hs p x)
      (fun x => by pointwise [k0_pay8])
      (by
        rw [e11, pay4_apply]
        exact congrArg topOf (funext fun x => pay3_apply c x0 x1 x3 x4 hc hs p x))
      (hid e o)
  simp only [e9, pay2_apply] at h5
  unfold kMix
  rw [Fin.sum_univ_eight, ← h5, ← h5, ← h5, ← h5, ← h5, ← h5, ← h5, ← h5]
  frame_out
  pointwise [k0_pay1, k0_pay6, k0_pay7]
  rw [e9]
  have l0 : lane 0 o = ⟨o.val, by omega⟩ := Fin.ext (by simp [lane])
  have l1 : lane 1 o = ⟨128 + o.val, by omega⟩ := Fin.ext (by simp [lane])
  have l2 : lane 2 o = ⟨256 + o.val, by omega⟩ := Fin.ext (by simp [lane])
  have l3 : lane 3 o = ⟨384 + o.val, by omega⟩ := Fin.ext (by simp [lane])
  have l4 : lane 4 o = ⟨512 + o.val, by omega⟩ := Fin.ext (by simp [lane])
  have l5 : lane 5 o = ⟨640 + o.val, by omega⟩ := Fin.ext (by simp [lane])
  have l6 : lane 6 o = ⟨768 + o.val, by omega⟩ := Fin.ext (by simp [lane])
  have l7 : lane 7 o = ⟨896 + o.val, by omega⟩ := Fin.ext (by simp [lane])
  rw [l0, l1, l2, l3, l4, l5, l6, l7]

end Cert.KernelIdeal.Hand

end
-- ==== Proof.KernelHost.lean ====
/-
  What the kernel's windows read when the grid starts: the table of scaled cosines and sines, the experts' weights and biases
  laid side by side in lanes, the expert of each lane, and the gate's bias, each from the arguments.
-/
module

public import proofs.«01_k».proof.Proof.KernelBody
public import proofs.«01_k».proof.Proof.Words
public import Idealize.ShloMosaic.Lib.StableHlo.ReadAt
public import Idealize.ShloMosaic.Lib.Routing.OpsSet

@[expose] public section

set_option maxRecDepth 16384

noncomputable section

namespace Cert.KernelIdeal.Hand

open Cert.KernelIdeal Cert.KernelIdeal.Gen Idealize.ShloMosaic Idealize.ShloMosaic.StableHlo Idealize.ShloMosaic.TcCoe Cert.Moe

variable (m : (ℓ : Loc nD τ sig) → Buf (Elt Ideal) ℓ) (c : Dev nD)

/-! ### The table -/

/-- The scale of the kernel's tables: the word for one over the square root of 512. -/
def scl : ℝ := 11863283 / 268435456

theorem lit_scl : Ideal.ofBits .f32 1026884851#32 = (scl : EReal) := by
  simp [Ideal.ofBits, Ideal.ieee, -EReal.coe_mul, scl]
  norm_num

theorem scl_ne : scl ≠ 0 := by unfold scl; norm_num

theorem table_cos (s : Fin 512) (k : Fin 256) :
    (V m c main_call0_v24 : S512x512.Idx → EReal) (ix2 s ⟨k.val, by omega⟩) = ((cosT s k * scl : ℝ) : EReal) := by
  after_reads_at
  after_reads_at
  rw [angle_word, rem_word, lit_scl, Ideal.cos_coe, ← EReal.coe_mul, Int.cast_natCast, cosT_rem]

theorem table_sin (s : Fin 512) (k : Fin 256) :
    (V m c main_call0_v24 : S512x512.Idx → EReal) (ix2 s ⟨256 + k.val, by omega⟩) = ((-sinT s k * scl : ℝ) : EReal) := by
  after_reads_at
  after_reads_at
  rw [angle_word, rem_word, lit_scl, Ideal.sin_coe, ← EReal.coe_neg, ← EReal.coe_mul, Int.cast_natCast, sinT_rem]

/-! ### The lanes -/

/-- The expert of each lane. -/
theorem lane_id (e : Fin 8) (o : Fin 96) :
    (V m c main_call0_v0 : S1x1024.Idx → BitVec 32) (ix2 0 (lane e o)) = BitVec.ofNat 32 e.val := by
  have h : ∀ q : Fin 1024, lit0 q = BitVec.ofNat 32 (q.val / 128) := by decide +kernel
  have hv : (S1024.rowMajor (ix1 (lane e o))).val = (lane e o).val := Shape.rowMajor_val_one _
  have hl : (lane e o).val / 128 = e.val := by
    show (128 * e.val + o.val) / 128 = e.val
    omega
  after_reads_at
  refine (h (S1024.rowMajor (ix1 (lane e o)))).trans ?_
  rw [hv, hl]

/-- The gate's bias. -/
theorem bias_gate (e : Fin 8) :
    (V m c main_call0_v34 : S1x8.Idx → EReal) (ix2 0 e) = (m (c.tc.loc main_arg2) : S8.Idx → EReal) (ix1 e) := by
  after_reads_at

/-- An update of the weights' scatter lands where it stands. -/
theorem lands_w (k : S512x8x96.Idx) (ι : S512x8x128.Idx) :
    scatter_S512x8x128_S1_S512x8x96_012_n_2_0.resultIdx? k (broadcastInDim S1 ![] bcast_S_S1 (constantI S_ 32 0#32)) = some ι
      ↔ (k 0).val = (ι 0).val ∧ (k 1).val = (ι 1).val ∧ (k 2).val = (ι 2).val := by
  have hs : ∀ a, scatter_S512x8x128_S1_S512x8x96_012_n_2_0.start k (broadcastInDim S1 ![] bcast_S_S1 (constantI S_ 32 0#32)) a = 0 := by
    intro a
    unfold ScatterDims.start
    split <;> rfl
  have h0 : scatter_S512x8x128_S1_S512x8x96_012_n_2_0.window k 0 = (k 0).val := by
    unfold ScatterDims.window
    rw [dif_pos (by decide)]
    rfl
  have h1 : scatter_S512x8x128_S1_S512x8x96_012_n_2_0.window k 1 = (k 1).val := by
    unfold ScatterDims.window
    rw [dif_pos (by decide)]
    rfl
  have h2 : scatter_S512x8x128_S1_S512x8x96_012_n_2_0.window k 2 = (k 2).val := by
    unfold ScatterDims.window
    rw [dif_pos (by decide)]
    rfl
  rw [Routing.resultIdx?_eq_some]
  constructor
  · intro h
    have e0 := h 0
    have e1 := h 1
    have e2 := h 2
    rw [hs, h0] at e0
    rw [hs, h1] at e1
    rw [hs, h2] at e2
    exact ⟨by omega, by omega, by omega⟩
  · rintro ⟨e0, e1, e2⟩ a
    rw [hs]
    match a with
    | ⟨0, _⟩ => exact (congrArg (fun n : ℕ => 0 + (n : ℤ)) (h0.trans e0)).trans (zero_add _)
    | ⟨1, _⟩ => exact (congrArg (fun n : ℕ => 0 + (n : ℤ)) (h1.trans e1)).trans (zero_add _)
    | ⟨2, _⟩ => exact (congrArg (fun n : ℕ => 0 + (n : ℤ)) (h2.trans e2)).trans (zero_add _)

/-- An update of the biases' scatter lands where it stands. -/
theorem lands_b (k : S8x96.Idx) (ι : S8x128.Idx) :
    scatter_S8x128_S1_S8x96_01_n_1_0.resultIdx? k (broadcastInDim S1 ![] bcast_S_S1 (constantI S_ 32 0#32)) = some ι
      ↔ (k 0).val = (ι 0).val ∧ (k 1).val = (ι 1).val := by
  have hs : ∀ a, scatter_S8x128_S1_S8x96_01_n_1_0.start k (broadcastInDim S1 ![] bcast_S_S1 (constantI S_ 32 0#32)) a = 0 := by
    intro a
    unfold ScatterDims.start
    split <;> rfl
  have h0 : scatter_S8x128_S1_S8x96_01_n_1_0.window k 0 = (k 0).val := by
    unfold ScatterDims.window
    rw [dif_pos (by decide)]
    rfl
  have h1 : scatter_S8x128_S1_S8x96_01_n_1_0.window k 1 = (k 1).val := by
    unfold ScatterDims.window
    rw [dif_pos (by decide)]
    rfl
  rw [Routing.resultIdx?_eq_some]
  constructor
  · intro h
    have e0 := h 0
    have e1 := h 1
    rw [hs, h0] at e0
    rw [hs, h1] at e1
    exact ⟨by omega, by omega⟩
  · rintro ⟨e0, e1⟩ a
    rw [hs]
    match a with
    | ⟨0, _⟩ => exact (congrArg (fun n : ℕ => 0 + (n : ℤ)) (h0.trans e0)).trans (zero_add _)
    | ⟨1, _⟩ => exact (congrArg (fun n : ℕ => 0 + (n : ℤ)) (h1.trans e1)).trans (zero_add _)

/-- The experts' weights at a lane. -/
theorem lane_weight (s : Fin 512) (e : Fin 8) (o : Fin 96) :
    (V m c main_call0_v29 : S512x1024.Idx → EReal) (ix2 s (lane e o)) = (m (c.tc.loc main_arg3) : S8x512x96.Idx → EReal) (ix3 e s o) := by
  have ho : (128 * e.val + o.val) % 128 = o.val := by omega
  unfold lane
  after_reads_at
  refine Routing.scatter_set_hit _ _ _ _ _ _ (fun k hk => ?_) (ix3 s e o) ((lands_w _ _).2 ⟨rfl, rfl, ho.symm⟩)
  obtain ⟨e0, e1, e2⟩ := (lands_w _ _).1 hk
  have hk : k = ix3 s e o := by
    funext a
    match a with
    | ⟨0, _⟩ => exact Fin.ext e0
    | ⟨1, _⟩ => exact Fin.ext e1
    | ⟨2, _⟩ => exact Fin.ext (e2.trans ho)
  rw [hk]
  pointwise

/-- The experts' biases at a lane. -/
theorem lane_bias (e : Fin 8) (o : Fin 96) :
    (V m c main_call0_v33 : S1x1024.Idx → EReal) (ix2 0 (lane e o)) = (m (c.tc.loc main_arg4) : S8x96.Idx → EReal) (ix2 e o) := by
  have ho : (128 * e.val + o.val) % 128 = o.val := by omega
  unfold lane
  after_reads_at
  refine Routing.scatter_set_hit _ _ _ _ _ _ (fun k hk => ?_) (ix2 e o) ((lands_b _ _).2 ⟨rfl, ho.symm⟩)
  obtain ⟨e0, e1⟩ := (lands_b _ _).1 hk
  have hk : k = ix2 e o := by
    funext a
    match a with
    | ⟨0, _⟩ => exact Fin.ext e0
    | ⟨1, _⟩ => exact Fin.ext (e1.trans ho)
  rw [hk]

end Cert.KernelIdeal.Hand

end
-- ==== Proof.KernelValue.lean ====
/-
  The kernel's array after the run, as one function of the arguments.
-/
module

public import proofs.«01_k».proof.Proof.Gen.KernelIdeal.Value
public import proofs.«01_k».proof.Proof.KernelHost

@[expose] public section

set_option maxRecDepth 16384

noncomputable section

namespace Cert.KernelIdeal.Hand

open Cert.KernelIdeal Cert.KernelIdeal.Gen Idealize.ShloMosaic Idealize.ShloMosaic.TcCoe Cert.Moe

variable (m : (ℓ : Loc nD τ sig) → Buf (Elt Ideal) ℓ) (c : Dev nD)

/-- The kernel's result of arrays. -/
def result (x : S8192x512.Idx → EReal) (Wg : S256x8.Idx → EReal) (bg : S8.Idx → EReal) (We : S8x512x96.Idx → EReal)
    (be : S8x96.Idx → EReal) : S8192x96.Idx → EReal := fun i =>
  kOut scl (fun r s => x (ix2 r s)) (fun k e => Wg (ix2 k e)) (fun e => bg (ix1 e)) (fun e s o => We (ix3 e s o))
    (fun e o => be (ix2 e o)) (i 0) (i 1)

theorem idx0 (t : Fin cfg0.N) : (cfg0.win 0).index t 0 = t.val ∧ (cfg0.win 0).index t 1 = 0 := by
  revert t; decide +kernel
theorem idx1 (t : Fin cfg0.N) : (cfg0.win 1).index t 0 = 0 ∧ (cfg0.win 1).index t 1 = 0 := by
  revert t; decide +kernel
theorem idx2 (t : Fin cfg0.N) : (cfg0.win 2).index t 0 = 0 ∧ (cfg0.win 2).index t 1 = 0 := by
  revert t; decide +kernel
theorem idx3 (t : Fin cfg0.N) : (cfg0.win 3).index t 0 = 0 ∧ (cfg0.win 3).index t 1 = 0 := by
  revert t; decide +kernel
theorem idx4 (t : Fin cfg0.N) : (cfg0.win 4).index t 0 = 0 ∧ (cfg0.win 4).index t 1 = 0 := by
  revert t; decide +kernel
theorem idx5 (t : Fin cfg0.N) : (cfg0.win 5).index t 0 = 0 ∧ (cfg0.win 5).index t 1 = 0 := by
  revert t; decide +kernel
theorem idx6 (t : Fin cfg0.N) : (cfg0.win 6).index t 0 = 0 ∧ (cfg0.win 6).index t 1 = 0 := by
  revert t; decide +kernel
theorem idx7 (t : Fin cfg0.N) : (cfg0.win 7).index t 0 = t.val ∧ (cfg0.win 7).index t 1 = 0 := by
  revert t; decide +kernel

theorem point_lt (t : Fin cfg0.N) : t.val < 4 := lt_of_lt_of_eq t.isLt N_0

/-- Row `p` of the block at point `t`. -/
def row (t : Fin cfg0.N) (p : Fin 2048) : Fin 8192 := ⟨t.val * 2048 + p.val, by have := point_lt t; omega⟩

/-! ### Where each window's block lies, and what it reads: the rows' windows move with the point, the others stand still -/

theorem place0 (t : Fin cfg0.N) (a : Fin 2048) (b : Fin 512) : (win0_0.blk t).view.emb (ix2 a b) = (ix2 (row t a) b : S8192x512.Idx) := by
  funext i
  apply Fin.ext
  match i with
  | ⟨0, _⟩ => blk_simp [idx0 t]; rfl
  | ⟨1, _⟩ => blk_simp [idx0 t]

theorem read0 (X : S8192x512.Idx → EReal) (t : Fin cfg0.N) (a : Fin 2048) (b : Fin 512) :
    (((cfg0.win 0).blk t).view.read (Elt Ideal) X : S2048x512.Idx → EReal) (ix2 a b) = X (ix2 (row t a) b) := by
  blk_simp
  exact congrArg X (place0 t a b)

theorem blk0 (t : Fin cfg0.N) (a : Fin 2048) (b : Fin 512) :
    (iblk m c 0 t : Vec Ideal S2048x512 .f32) (ix2 a b) = (V m c main_arg0 : S8192x512.Idx → EReal) (ix2 (row t a) b) :=
  read0 (V m c main_arg0) t a b

theorem place1 (t : Fin cfg0.N) (a : Fin 512) (b : Fin 512) : (win0_1.blk t).view.emb (ix2 a b) = (ix2 a b : S512x512.Idx) := by
  funext i
  apply Fin.ext
  match i with
  | ⟨0, _⟩ => blk_simp [idx1 t]
  | ⟨1, _⟩ => blk_simp [idx1 t]

theorem read1 (X : S512x512.Idx → EReal) (t : Fin cfg0.N) (a : Fin 512) (b : Fin 512) :
    (((cfg0.win 1).blk t).view.read (Elt Ideal) X : S512x512.Idx → EReal) (ix2 a b) = X (ix2 a b) := by
  blk_simp
  exact congrArg X (place1 t a b)

theorem blk1 (t : Fin cfg0.N) (a : Fin 512) (b : Fin 512) :
    (iblk m c 1 t : Vec Ideal S512x512 .f32) (ix2 a b) = (V m c main_call0_v24 : S512x512.Idx → EReal) (ix2 a b) :=
  read1 (V m c main_call0_v24) t a b

theorem place2 (t : Fin cfg0.N) (a : Fin 512) (b : Fin 1024) : (win0_2.blk t).view.emb (ix2 a b) = (ix2 a b : S512x1024.Idx) := by
  funext i
  apply Fin.ext
  match i with
  | ⟨0, _⟩ => blk_simp [idx2 t]
  | ⟨1, _⟩ => blk_simp [idx2 t]

theorem read2 (X : S512x1024.Idx → EReal) (t : Fin cfg0.N) (a : Fin 512) (b : Fin 1024) :
    (((cfg0.win 2).blk t).view.read (Elt Ideal) X : S512x1024.Idx → EReal) (ix2 a b) = X (ix2 a b) := by
  blk_simp
  exact congrArg X (place2 t a b)

theorem blk2 (t : Fin cfg0.N) (a : Fin 512) (b : Fin 1024) :
    (iblk m c 2 t : Vec Ideal S512x1024 .f32) (ix2 a b) = (V m c main_call0_v29 : S512x1024.Idx → EReal) (ix2 a b) :=
  read2 (V m c main_call0_v29) t a b

theorem place3 (t : Fin cfg0.N) (a : Fin 256) (b : Fin 8) : (win0_3.blk t).view.emb (ix2 a b) = (ix2 a b : S256x8.Idx) := by
  funext i
  apply Fin.ext
  match i with
  | ⟨0, _⟩ => blk_simp [idx3 t]
  | ⟨1, _⟩ => blk_simp [idx3 t]

theorem read3 (X : S256x8.Idx → EReal) (t : Fin cfg0.N) (a : Fin 256) (b : Fin 8) :
    (((cfg0.win 3).blk t).view.read (Elt Ideal) X : S256x8.Idx → EReal) (ix2 a b) = X (ix2 a b) := by
  blk_simp
  exact congrArg X (place3 t a b)

theorem blk3 (t : Fin cfg0.N) (a : Fin 256) (b : Fin 8) :
    (iblk m c 3 t : Vec Ideal S256x8 .f32) (ix2 a b) = (V m c main_arg1 : S256x8.Idx → EReal) (ix2 a b) :=
  read3 (V m c main_arg1) t a b

theorem place4 (t : Fin cfg0.N) (a : Fin 1) (b : Fin 8) : (win0_4.blk t).view.emb (ix2 a b) = (ix2 a b : S1x8.Idx) := by
  funext i
  apply Fin.ext
  match i with
  | ⟨0, _⟩ => blk_simp [idx4 t]
  | ⟨1, _⟩ => blk_simp [idx4 t]

theorem read4 (X : S1x8.Idx → EReal) (t : Fin cfg0.N) (a : Fin 1) (b : Fin 8) :
    (((cfg0.win 4).blk t).view.read (Elt Ideal) X : S1x8.Idx → EReal) (ix2 a b) = X (ix2 a b) := by
  blk_simp
  exact congrArg X (place4 t a b)

theorem blk4 (t : Fin cfg0.N) (a : Fin 1) (b : Fin 8) :
    (iblk m c 4 t : Vec Ideal S1x8 .f32) (ix2 a b) = (V m c main_call0_v34 : S1x8.Idx → EReal) (ix2 a b) :=
  read4 (V m c main_call0_v34) t a b

theorem place5 (t : Fin cfg0.N) (a : Fin 1) (b : Fin 1024) : (win0_5.blk t).view.emb (ix2 a b) = (ix2 a b : S1x1024.Idx) := by
  funext i
  apply Fin.ext
  match i with
  | ⟨0, _⟩ => blk_simp [idx5 t]
  | ⟨1, _⟩ => blk_simp [idx5 t]

theorem read5 (X : S1x1024.Idx → EReal) (t : Fin cfg0.N) (a : Fin 1) (b : Fin 1024) :
    (((cfg0.win 5).blk t).view.read (Elt Ideal) X : S1x1024.Idx → EReal) (ix2 a b) = X (ix2 a b) := by
  blk_simp
  exact congrArg X (place5 t a b)

theorem blk5 (t : Fin cfg0.N) (a : Fin 1) (b : Fin 1024) :
    (iblk m c 5 t : Vec Ideal S1x1024 .f32) (ix2 a b) = (V m c main_call0_v33 : S1x1024.Idx → EReal) (ix2 a b) :=
  read5 (V m c main_call0_v33) t a b

theorem place6 (t : Fin cfg0.N) (a : Fin 1) (b : Fin 1024) : (win0_6.blk t).view.emb (ix2 a b) = (ix2 a b : S1x1024.Idx) := by
  funext i
  apply Fin.ext
  match i with
  | ⟨0, _⟩ => blk_simp [idx6 t]
  | ⟨1, _⟩ => blk_simp [idx6 t]

theorem read6 (X : S1x1024.Idx → BitVec 32) (t : Fin cfg0.N) (a : Fin 1) (b : Fin 1024) :
    (((cfg0.win 6).blk t).view.read (Elt Ideal) X : S1x1024.Idx → BitVec 32) (ix2 a b) = X (ix2 a b) := by
  blk_simp
  exact congrArg X (place6 t a b)

theorem blk6 (t : Fin cfg0.N) (a : Fin 1) (b : Fin 1024) :
    (iblk m c 6 t : Vec Ideal S1x1024 .i32) (ix2 a b) = (V m c main_call0_v0 : S1x1024.Idx → BitVec 32) (ix2 a b) :=
  read6 (V m c main_call0_v0) t a b

theorem place7 (t : Fin cfg0.N) (a : Fin 2048) (b : Fin 96) : (win0_7.blk t).view.emb (ix2 a b) = (ix2 (row t a) b : S8192x96.Idx) := by
  funext i
  apply Fin.ext
  match i with
  | ⟨0, _⟩ => blk_simp [idx7 t]; rfl
  | ⟨1, _⟩ => blk_simp [idx7 t]

/-- THE ARRAY: after the run it is the kernel's result of the arguments. -/
theorem value : (dats m 0 c).arrAt 7 cfg0.N = result (m (c.tc.loc main_arg0)) (m (c.tc.loc main_arg1)) (m (c.tc.loc main_arg2))
    (m (c.tc.loc main_arg3)) (m (c.tc.loc main_arg4)) := by
  refine (dats m 0 c).arrAt_eq_of_covers 7 _ (by decide +kernel) fun t hf y => ?_
  blk_simp
  rw [after0_7]
  idx_vars y
  have h0 : ∀ (p : Fin 2048) (s : Fin 512), (iblk m c 0 t : Vec Ideal S2048x512 .f32) (ix2 p s)
      = (m (c.tc.loc main_arg0) : S8192x512.Idx → EReal) (ix2 (row t p) s) := fun p s =>
    (blk0 m c t p s).trans (congrFun (V_main_arg0 m c) _)
  have h2 : ∀ (s : Fin 512) (e : Fin 8) (o : Fin 96), (iblk m c 2 t : Vec Ideal S512x1024 .f32) (ix2 s (lane e o))
      = (m (c.tc.loc main_arg3) : S8x512x96.Idx → EReal) (ix3 e s o) := fun s e o =>
    (blk2 m c t s (lane e o)).trans (lane_weight m c s e o)
  have h3 : ∀ (k : Fin 256) (e : Fin 8), (iblk m c 3 t : Vec Ideal S256x8 .f32) (ix2 k e)
      = (m (c.tc.loc main_arg1) : S256x8.Idx → EReal) (ix2 k e) := fun k e =>
    (blk3 m c t k e).trans (congrFun (V_main_arg1 m c) _)
  have h4 : ∀ e : Fin 8, (iblk m c 4 t : Vec Ideal S1x8 .f32) (ix2 0 e)
      = (m (c.tc.loc main_arg2) : S8.Idx → EReal) (ix1 e) := fun e =>
    (blk4 m c t 0 e).trans (bias_gate m c e)
  have h5 : ∀ (e : Fin 8) (o : Fin 96), (iblk m c 5 t : Vec Ideal S1x1024 .f32) (ix2 0 (lane e o))
      = (m (c.tc.loc main_arg4) : S8x96.Idx → EReal) (ix2 e o) := fun e o =>
    (blk5 m c t 0 (lane e o)).trans (lane_bias m c e o)
  rw [place7, out_apply scl _ _ _ _ _ _ _ (fun s k => (blk1 m c t _ _).trans (table_cos m c s k))
    (fun s k => (blk1 m c t _ _).trans (table_sin m c s k)) (fun e o => (blk6 m c t 0 _).trans (lane_id m c e o))]
  simp only [h0, h2, h3, h4, h5]
  rfl

end Cert.KernelIdeal.Hand

end
-- ==== Proof.RefGate.lean ====
/-
  The reference's gate scores: each row's powers at each frequency, their shares, and the scores.
-/
module

public import proofs.«01_k».proof.Proof.Gen.ReferenceIdeal.Run
public import proofs.«01_k».proof.Proof.Words
public import Idealize.ShloMosaic.Lib.Pointwise
public import Idealize.ShloMosaic.Lib.Tactic.CleanTypes
public import Idealize.ShloMosaic.Lib.IdealHost
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Idealize.ShloMosaic Idealize.ShloMosaic.StableHlo
open Cert.Moe

variable (V0 : Valuation τ sig (Elt Ideal))

/-- The rows. -/
def X (r : Fin 8192) (s : Fin 512) : EReal := (V0 (Proc.devRef .tc main_arg0) : S8192x512.Idx → EReal) (ix2 r s)
/-- The gate's weights. -/
def W (k : Fin 256) (e : Fin 8) : EReal := (V0 (Proc.devRef .tc main_arg1) : S256x8.Idx → EReal) (ix2 k e)
/-- The gate's biases. -/
def B (e : Fin 8) : EReal := (V0 (Proc.devRef .tc main_arg2) : S8.Idx → EReal) (ix1 e)
/-- The experts' weights. -/
def We (e : Fin 8) (s : Fin 512) (o : Fin 96) : EReal := (V0 (Proc.devRef .tc main_arg3) : S8x512x96.Idx → EReal) (ix3 e s o)
/-- The experts' biases. -/
def Be (e : Fin 8) (o : Fin 96) : EReal := (V0 (Proc.devRef .tc main_arg4) : S8x96.Idx → EReal) (ix2 e o)

/-- The divisor of the reference's spectrum: the square root of 512. -/
def root : ℝ := Real.sqrt 512

theorem root_ne : root ≠ 0 := (Real.sqrt_pos.2 (by norm_num)).ne'

theorem sqrt_512 : Ideal.sqrt ((512 : ℝ) : EReal) = (root : EReal) := by
  rw [Ideal.sqrt_coe, if_neg (by norm_num)]
  rfl

theorem v5 (r : Fin 8192) (s : Fin 512) : (res_main_v5 V0 : S8192x512.Idx → EReal) (ix2 r s) = centred (X V0 r) s := by
  unfold res_main_v5
  clean_types
  pointwise
  rw [lit_512]
  rfl

theorem v15 (s : Fin 512) (k : Fin 256) :
    (res_main_v15 V0 : S512x256.Idx → EReal) (ix2 s k) = ((2 * Real.pi * ((s.val * k.val : ℕ) : ℝ) / 512 : ℝ) : EReal) := by
  unfold res_main_v15
  clean_types
  pointwise
  rw [angle_word, prod_word, Int.cast_natCast]

theorem v20 (r : Fin 8192) (k : Fin 256) : (res_main_v20 V0 : S8192x256.Idx → EReal) (ix2 r k)
    = Ideal.div (∑ s, centred (X V0 r) s * ((cosT s k : ℝ) : EReal)) (root : EReal) := by
  unfold res_main_v20
  clean_types
  pointwise
  simp only [v5, v15, Ideal.cos_coe, lit_512, sqrt_512]
  rfl

theorem v26 (r : Fin 8192) (k : Fin 256) : (res_main_v26 V0 : S8192x256.Idx → EReal) (ix2 r k)
    = Ideal.div (-∑ s, centred (X V0 r) s * ((sinT s k : ℝ) : EReal)) (root : EReal) := by
  unfold res_main_v26
  clean_types
  pointwise
  simp only [v5, v15, Ideal.sin_coe, lit_512, sqrt_512]
  rfl

theorem v29 (r : Fin 8192) (k : Fin 256) : (res_main_v29 V0 : S8192x256.Idx → EReal) (ix2 r k) = rPower root (X V0 r) k := by
  unfold res_main_v29
  clean_types
  pointwise
  rw [v20, v26]
  rfl

theorem v31 (r : Fin 8192) : (res_main_v31 V0 : S8192x1.Idx → EReal) (ix2 r 0) = ∑ k, rPower root (X V0 r) k := by
  unfold res_main_v31
  clean_types
  pointwise
  simp only [v29]

/-- The reference's score of expert `e` on row `r`. -/
def score (r : Fin 8192) (e : Fin 8) : EReal := gate (shares (rPower root (X V0 r))) (W V0) (B V0) e

theorem div_one' (v : EReal) : Ideal.div v 1 = v := by
  unfold Ideal.div
  rw [if_neg one_ne_zero, inv_one, mul_one]

theorem v42 (r : Fin 8192) (e : Fin 8) : (res_main_v42 V0 : S8192x8.Idx → EReal) (ix2 r e) = score V0 r e := by
  unfold res_main_v42
  clean_types
  pointwise
  have h1 : id (constant (F := Ideal) S_ .f32 1065353216#32) ix0 = (1 : EReal) := Ideal.ofBits_one_f32
  simp only [v29, v31, h1]
  rw [div_one']
  rfl

end Cert.ReferenceIdeal.Hand

end
-- ==== Proof.RefPick.lean ====
/-
  The reference's choice of two experts on a row: their scores, the softmax's exponentials, and their indices as words.
-/
module

public import proofs.«01_k».proof.Proof.RefGate

@[expose] public section

set_option maxRecDepth 16384

noncomputable section

namespace Cert.ReferenceIdeal.Hand

open Cert.ReferenceIdeal Cert.ReferenceIdeal.Gen Cert.ReferenceIdeal.Value Idealize.ShloMosaic Idealize.ShloMosaic.StableHlo
open Cert.Moe

variable (V0 : Valuation τ sig (Elt Ideal))

/-- An index of the scores with its expert replaced. -/
theorem along_eq (r : Fin 8192) (e k : Fin 8) : ((ix2 r e : S8192x8.Idx).along 1 k : S8192x8.Idx) = ix2 r k := by
  funext a
  match a with
  | ⟨0, _⟩ => rfl
  | ⟨1, _⟩ => rfl

theorem values_apply (r : Fin 8192) (q : Fin 2) : (res_main_values V0 : S8192x2.Idx → EReal) (ix2 r q) = chosen (score V0 r) q := by
  unfold res_main_values
  clean_types
  unfold Host.topK Host.sort2
  pointwise
  simp only [along_eq, v42]
  rfl

theorem v49 (r : Fin 8192) (q : Fin 2) : (res_main_v49 V0 : S8192x2.Idx → EReal) (ix2 r q) = expOf (score V0 r) q := by
  unfold res_main_v49
  clean_types
  pointwise
  simp only [values_apply, lit_bot]
  rfl

theorem v58 (r : Fin 8192) (q : Fin 2) : (res_main_v58 V0 : S8192x2x1.Idx → BitVec 32) (ix3 r q 0)
    = BitVec.ofNat 32 (pick (score V0 r) ⟨q.val, by omega⟩).val := by
  unfold res_main_v58
  clean_types
  pointwise
  unfold Host.topK Host.sort2
  pointwise
  simp only [along_eq, v42]
  rfl

theorem word_small (e : Fin 8) : Scalar.select (IntOp.cmpi .slt (BitVec.ofNat 32 e.val) 0#32)
    (IntOp.addi (BitVec.ofNat 32 e.val) 8#32) (BitVec.ofNat 32 e.val) = BitVec.ofNat 32 e.val := by
  revert e; decide

theorem clamp_small (e : Fin 8) : min (BitVec.ofNat 32 e.val).toInt.toNat (8 - 1) = e.val := by
  revert e; decide

theorem index_apply (r : Fin 8192) (q : Fin 2) : (res_main_call1_v4 V0 : S8192x2x1.Idx → BitVec 32) (ix3 r q 0)
    = BitVec.ofNat 32 (pick (score V0 r) ⟨q.val, by omega⟩).val := by
  unfold res_main_call1_v4
  clean_types
  pointwise
  rw [v58, word_small]

/-- The gather reads, at row `r`, choice `q` and lane `o`, the chosen expert's output. -/
theorem operand (idx : IVec S8192x2x1 32) (r : Fin 8192) (q : Fin 2) (o : Fin 96) (e : Fin 8)
    (h : idx (ix3 r q 0) = BitVec.ofNat 32 e.val) :
    gather_S8192x8x96_S8192x2x1_S8192x2x96_2_1_0_0_1_2_1196.operandIdx (ix3 r q o) idx = (ix3 r e o : S8192x8x96.Idx) := by
  funext a
  apply Fin.ext
  show _ + _ + _ = _
  match a with
  | ⟨0, _⟩ =>
    have h1 : gather_S8192x8x96_S8192x2x1_S8192x2x96_2_1_0_0_1_2_1196.start (ix3 r q o) idx 0 = 0 := by
      unfold GatherDims.start
      rw [dif_neg (by decide)]
    have h2 : gather_S8192x8x96_S8192x2x1_S8192x2x96_2_1_0_0_1_2_1196.batchCoord (ix3 r q o) 0 = r.val := by
      unfold GatherDims.batchCoord
      rw [dif_pos (by decide)]
      rfl
    have h3 : gather_S8192x8x96_S8192x2x1_S8192x2x96_2_1_0_0_1_2_1196.offCoord (ix3 r q o) 0 = 0 := by
      unfold GatherDims.offCoord
      rw [dif_neg (by decide)]
    exact (congrArg₂ (· + ·) (congrArg₂ (· + ·) h1 h2) h3).trans (by simp)
  | ⟨1, _⟩ =>
    have hs : gather_S8192x8x96_S8192x2x1_S8192x2x96_2_1_0_0_1_2_1196.siIdx (ix3 r q o) ⟨0, by decide⟩ = (ix3 r q 0 : S8192x2x1.Idx) := by
      funext b
      match b with
      | ⟨0, _⟩ => rfl
      | ⟨1, _⟩ => rfl
      | ⟨2, _⟩ => rfl
    have h1 : gather_S8192x8x96_S8192x2x1_S8192x2x96_2_1_0_0_1_2_1196.start (ix3 r q o) idx 1 = e.val := by
      unfold GatherDims.start
      rw [dif_pos (by decide)]
      refine (congrArg (fun w : BitVec 32 => min w.toInt.toNat (8 - 1)) ((congrArg idx hs).trans h)).trans ?_
      exact clamp_small e
    have h2 : gather_S8192x8x96_S8192x2x1_S8192x2x96_2_1_0_0_1_2_1196.batchCoord (ix3 r q o) 1 = 0 := by
      unfold GatherDims.batchCoord
      rw [dif_neg (by decide)]
    have h3 : gather_S8192x8x96_S8192x2x1_S8192x2x96_2_1_0_0_1_2_1196.offCoord (ix3 r q o) 1 = 0 := by
      unfold GatherDims.offCoord
      rw [dif_neg (by decide)]
    exact (congrArg₂ (· + ·) (congrArg₂ (· + ·) h1 h2) h3).trans (by simp)
  | ⟨2, _⟩ =>
    have h1 : gather_S8192x8x96_S8192x2x1_S8192x2x96_2_1_0_0_1_2_1196.start (ix3 r q o) idx 2 = 0 := by
      unfold GatherDims.start
      rw [dif_neg (by decide)]
    have h2 : gather_S8192x8x96_S8192x2x1_S8192x2x96_2_1_0_0_1_2_1196.batchCoord (ix3 r q o) 2 = 0 := by
      unfold GatherDims.batchCoord
      rw [dif_neg (by decide)]
    have h3 : gather_S8192x8x96_S8192x2x1_S8192x2x96_2_1_0_0_1_2_1196.offCoord (ix3 r q o) 2 = o.val := by
      unfold GatherDims.offCoord
      rw [dif_pos (by decide)]
      rfl
    exact (congrArg₂ (· + ·) (congrArg₂ (· + ·) h1 h2) h3).trans (by simp)

end Cert.ReferenceIdeal.Hand

end
-- ==== Proof.RefValue.lean ====
/-
  The reference's result, as one function of the arguments.
-/
module

public import proofs.«01_k».proof.Proof.RefPick

@[expose] public section

set_option maxRecDepth 16384

noncomputable section

namespace Cert.ReferenceIdeal.Hand

open Cert.ReferenceIdeal Cert.ReferenceIdeal.Gen Cert.ReferenceIdeal.Value Idealize.ShloMosaic Idealize.ShloMosaic.StableHlo
open Cert.Moe

variable (V0 : Valuation τ sig (Elt Ideal))

/-- The eight experts' outputs on every row. -/
def outputs : FVec Ideal S8192x8x96 .f32 :=
  addf (Host.dotGeneral (φ₁ := .f32) (φ₂ := .f32) dot_S8192x512_S8x512x96_S8192x8x96_1_1_0_02_n_n none (V0 (Proc.devRef .tc main_arg0)) (V0 (Proc.devRef .tc main_arg3))) (broadcastInDim S8192x8x96 ![0, 1, 2] bcast_S1x8x96_S8192x8x96_0_1_2 (broadcastInDim S1x8x96 ![1, 2] bcast_S8x96_S1x8x96_1_2 (V0 (Proc.devRef .tc main_arg4))))

/-- One where the chosen index is in range. -/
def inRange : IVec S8192x2 1 :=
  Host.reduce IntOp.andi (andi (cmpi .sge (res_main_call1_v4 V0) (broadcastInDim S8192x2x1 ![] bcast_S_S8192x2x1 (constantI S_ 32 0#32))) (cmpi .sle (res_main_call1_v4 V0) (broadcastInDim S8192x2x1 ![0, 1, 2] bcast_S1x1x1_S8192x2x1_0_1_2 (broadcastInDim S1x1x1 ![2] bcast_S1_S1x1x1_2 (constantI S1 32 7#32))))) (constantI S_ 1 1#1) reducesTo_S8192x2x1_S8192x2_d2 h_S_

/-- The chosen experts' outputs on every row. -/
def taken : FVec Ideal S8192x2x96 .f32 :=
  select (broadcastInDim S8192x2x96 ![0, 1] bcast_S8192x2_S8192x2x96_0_1 (inRange V0)) (Host.gather gather_S8192x8x96_S8192x2x1_S8192x2x96_2_1_0_0_1_2_1196 (outputs V0) (res_main_call1_v4 V0)) (broadcastInDim S8192x2x96 ![] bcast_S_S8192x2x96 (constant S_ .f32 0x7FC00000#32))

/-- The softmax's weights on every row. -/
def weights : FVec Ideal S8192x2 .f32 :=
  Host.divf (res_main_v49 V0) (broadcastInDim S8192x2 ![0, 1] bcast_S8192x1_S8192x2_0_1 (broadcastInDim S8192x1 ![0] bcast_S8192_S8192x1_0 (Host.reduceAdd (res_main_v49 V0) (constant S_ .f32 0x00000000#32) reducesTo_S8192x2_S8192_d1 h_S_)))

theorem outputs_apply (r : Fin 8192) (e : Fin 8) (o : Fin 96) :
    outputs V0 (ix3 r e o) = expert (X V0 r) (We V0) (Be V0) o e := by
  unfold outputs
  clean_types
  pointwise
  rfl

theorem small_in (e : Fin 8) : IntOp.andi (IntOp.cmpi .sge (BitVec.ofNat 32 e.val) 0#32)
    (IntOp.cmpi .sle (BitVec.ofNat 32 e.val) 7#32) = 1#1 := by
  revert e; decide

theorem inRange_apply (r : Fin 8192) (q : Fin 2) : inRange V0 (ix2 r q) = 1#1 := by
  unfold inRange
  clean_types
  pointwise
  have h : ∀ x : Fin 1, IntOp.andi (IntOp.cmpi CmpIPredicate.sge (res_main_call1_v4 V0 (ix3 r q x)) 0#32)
      (IntOp.cmpi CmpIPredicate.sle (res_main_call1_v4 V0 (ix3 r q x)) 7#32) = 1#1 := by
    intro x
    rw [Subsingleton.elim x 0, index_apply, small_in]
  simp only [h]
  decide

/-- The gather's rows are the chosen experts' outputs. -/
theorem taken_apply (r : Fin 8192) (q : Fin 2) (o : Fin 96) :
    taken V0 (ix3 r q o) = expert (X V0 r) (We V0) (Be V0) o (pick (score V0 r) ⟨q.val, by omega⟩) := by
  unfold taken
  pointwise
  have hg : Host.gather gather_S8192x8x96_S8192x2x1_S8192x2x96_2_1_0_0_1_2_1196 (outputs V0) (res_main_call1_v4 V0) (ix3 r q o)
      = outputs V0 (ix3 r (pick (score V0 r) ⟨q.val, by omega⟩) o) := by
    unfold Host.gather
    exact congrArg (outputs V0) (operand _ r q o _ (index_apply V0 r q))
  rw [inRange_apply, hg, outputs_apply]
  exact if_pos rfl

theorem weights_apply (r : Fin 8192) (q : Fin 2) :
    weights V0 (ix2 r q) = Ideal.div (expOf (score V0 r) q) (∑ p : Fin 2, expOf (score V0 r) p) := by
  unfold weights
  clean_types
  pointwise
  simp only [v49]

/-- The reference's result, by the specification. -/
def outcome : S8192x96.Idx → EReal :=
  fun i => rOut root (X V0) (W V0) (B V0) (We V0) (Be V0) (i 0) (i 1)

/-- THE REFERENCE: its array is the reference's mix. -/
theorem value : Host.reduceAdd (mulf (broadcastInDim S8192x2x96 ![0, 1, 2] bcast_S8192x2x1_S8192x2x96_0_1_2 (broadcastInDim S8192x2x1 ![0, 1] bcast_S8192x2_S8192x2x1_0_1 (weights V0))) (taken V0)) (constant S_ .f32 0x00000000#32) reducesTo_S8192x2x96_S8192x96_d1 h_S_
    = outcome V0 := by
  funext i
  idx_vars i
  pointwise
  simp only [weights_apply, taken_apply]
  rfl

end Cert.ReferenceIdeal.Hand

end
-- ==== Proof.Mix.lean ====
/-
  The choice of two experts and their mix: on real scores the kernel's (greatest score at its least index, that one struck
  out, greatest again) and the reference's (a stable sort, greater first, its first two, a softmax of the pair) agree.
-/
module

public import proofs.«01_k».proof.Proof.Spec
public import Idealize.ShloMosaic.Lib.PlanTiles.StableSort

@[expose] public section

noncomputable section

namespace Cert.Moe

open Idealize.ShloMosaic

/-- `a` holds the greatest score, and no smaller index holds it. -/
def IsTop (g : Fin 8 → EReal) (a : Fin 8) : Prop := ∀ j, j ≠ a → g j < g a ∨ (g j = g a ∧ a < j)

theorem IsTop.le {g : Fin 8 → EReal} {a : Fin 8} (h : IsTop g a) (j : Fin 8) : g j ≤ g a := by
  by_cases e : j = a
  · rw [e]
  · rcases h j e with h | h
    · exact h.le
    · exact h.1.le

/-- The fold of the maximum is the score at `a`. -/
theorem topOf_eq {g : Fin 8 → EReal} {a : Fin 8} (h : IsTop g a) : topOf g = g a := by
  refine le_antisymm (Finset.fold_max_le _ |>.2 ⟨bot_le, fun j _ => h.le j⟩) ?_
  exact (Finset.le_fold_max _).2 (Or.inr ⟨a, Finset.mem_univ a, le_rfl⟩)

/-- The signed minimum of words, read as integers. -/
theorem toInt_minsi (x y : BitVec 32) : (IntOp.minsi x y).toInt = min x.toInt y.toInt := by
  unfold IntOp.minsi
  by_cases h : x.slt y = true
  · rw [if_pos h]
    rw [BitVec.slt_iff_toInt_lt] at h
    omega
  · rw [if_neg h]
    rw [BitVec.slt_iff_toInt_lt] at h
    omega

theorem toInt_small (x : Fin 8) : (BitVec.ofNat 32 x.val).toInt = (x.val : ℤ) := by
  revert x; decide

/-- The position of the greatest score is `a`. -/
theorem posOf_eq {g : Fin 8 → EReal} {a : Fin 8} (h : IsTop g a) : posOf g (g a) = BitVec.ofNat 32 a.val := by
  apply BitVec.eq_of_toInt_eq
  unfold posOf
  rw [← Finset.fold_hom (op' := (min : ℤ → ℤ → ℤ)) (m := BitVec.toInt) (fun x y => (toInt_minsi x y))]
  rw [toInt_small]
  refine le_antisymm ?_ ?_
  · refine (Finset.fold_min_le _).2 (Or.inr ⟨a, Finset.mem_univ a, ?_⟩)
    simp [toInt_small]
  · refine (Finset.le_fold_min _).2 ⟨?_, fun j _ => ?_⟩
    · have := a.isLt
      have e : (2147483647#32).toInt = 2147483647 := by decide
      rw [e]; omega
    · by_cases e : g j = g a
      · simp only [if_pos e, toInt_small]
        by_cases ja : j = a
        · rw [ja]
        · rcases h j ja with h | h
          · exact absurd e h.ne
          · exact_mod_cast h.2.le
      · rw [if_neg e]
        have := a.isLt
        have e : (8#32).toInt = 8 := by decide
        rw [e]; omega

theorem cmpi_small (x a : Fin 8) :
    IntOp.cmpi .eq (BitVec.ofNat 32 x.val) (BitVec.ofNat 32 a.val) = if x = a then 1#1 else 0#1 := by
  revert x a; decide

theorem select_if {α : Type} (p : Prop) [Decidable p] (x y : α) :
    Scalar.select (if p then 1#1 else 0#1) x y = if p then x else y := by
  by_cases h : p
  · simp [h, Scalar.select]
  · simp [h, Scalar.select]

/-- Striking out index `a`. -/
theorem struck_eq (g : Fin 8 → EReal) (a x : Fin 8) : struck g (BitVec.ofNat 32 a.val) x = if x = a then ⊥ else g x := by
  unfold struck
  rw [cmpi_small, select_if]

/-- How many scores are below the one at `k`: a natural number that orders the experts as the scores do. -/
def below (g : Fin 8 → EReal) (k : Fin 8) : ℕ := (Finset.univ.filter fun j => g j < g k).card

theorem below_lt (g : Fin 8 → EReal) (k j : Fin 8) : below g k < below g j ↔ g k < g j := by
  constructor
  · intro h
    by_contra hn
    have hn : g j ≤ g k := not_lt.1 hn
    refine absurd h (not_lt.2 (Finset.card_le_card fun i hi => ?_))
    simp only [Finset.mem_filter, Finset.mem_univ, true_and] at hi ⊢
    exact hi.trans_le hn
  · intro h
    refine Finset.card_lt_card ⟨fun i hi => ?_, fun hs => ?_⟩
    · simp only [Finset.mem_filter, Finset.mem_univ, true_and] at hi ⊢
      exact hi.trans h
    · have := hs (show k ∈ _ by simpa using h)
      simp at this

theorem below_eq {g : Fin 8 → EReal} {k j : Fin 8} (h : below g k = below g j) : g k = g j := by
  rcases lt_trichotomy (g k) (g j) with l | l | l
  · have := (below_lt g k j).2 l; omega
  · exact l
  · have := (below_lt g j k).2 l; omega

/-- The comparison that the sort asks for. -/
theorem gt_iff (x y : EReal) : (Ideal.cmpTotal .gt x y == 1#1) = decide (y < x) := by
  unfold Ideal.cmpTotal Ideal.cmp
  simp only [CmpDirection.ordered]
  by_cases h : y < x <;> simp [h]

/-- Earlier in the reference's order means a greater score, or the same score at a smaller index. -/
theorem pick_order (g : Fin 8 → EReal) (i j : Fin 8) (hij : i < j) :
    g (pick g j) < g (pick g i) ∨ (g (pick g j) = g (pick g i) ∧ pick g i < pick g j) := by
  have hb : (fun k k' : Fin 8 => Ideal.cmpTotal .gt (g k) (g k') == 1#1)
      = fun x y => decide (below g y < below g x) := by
    funext x y
    rw [gt_iff]
    exact decide_eq_decide.2 (below_lt g y x).symm
  have hp := PlanTiles.pairwise_stableSort_lex (below g) (· < ·) (List.finRange 8) (List.pairwise_lt_finRange 8)
  have hg := List.pairwise_iff_get.1 hp
  have key : PlanTiles.Lex (below g) (· < ·) (pick g i) (pick g j) := by
    unfold pick
    rw [hb]
    exact hg (i.cast (length_sortPositions 8 _).symm) (j.cast (length_sortPositions 8 _).symm) hij
  rcases key with h | h
  · exact Or.inl ((below_lt g _ _).1 h)
  · exact Or.inr ⟨(below_eq h.1).symm, h.2⟩

theorem pick_zero (g : Fin 8 → EReal) : IsTop g (pick g 0) := by
  intro j hj
  obtain ⟨k, rfl⟩ := sortedFrom_surjective (fun k k' : Fin 8 => Ideal.cmpTotal .gt (g k) (g k') == 1#1) j
  have hk : (0 : Fin 8) < k := by
    refine Fin.pos_iff_ne_zero.2 fun h => hj ?_
    rw [h]; rfl
  exact pick_order g 0 k hk

theorem pick_ne (g : Fin 8 → EReal) : pick g 1 ≠ pick g 0 := fun h =>
  absurd (sortedFrom_injective _ h) (by decide)

theorem pick_one (g : Fin 8 → EReal) (hr : ∀ e, g e ≠ ⊥) :
    IsTop (struck g (BitVec.ofNat 32 (pick g 0).val)) (pick g 1) := by
  intro j hj
  rw [struck_eq, struck_eq, if_neg (pick_ne g)]
  by_cases e : j = pick g 0
  · rw [if_pos e]
    exact Or.inl (bot_lt_iff_ne_bot.2 (hr _))
  · rw [if_neg e]
    obtain ⟨k, rfl⟩ := sortedFrom_surjective (fun k k' : Fin 8 => Ideal.cmpTotal .gt (g k) (g k') == 1#1) j
    have h0 : k ≠ 0 := fun h => e (by rw [h]; rfl)
    have h1 : k ≠ 1 := fun h => hj (by rw [h]; rfl)
    exact pick_order g 1 k (by omega)

/-- THE MIX: on real scores the kernel's weighted sum over all eight experts is the reference's over the two it picks. -/
theorem kMix_eq_rMix (g y : Fin 8 → EReal) (hb : ∀ e, g e ≠ ⊥) (ht : ∀ e, g e ≠ ⊤) : kMix g y = rMix g y := by
  have h0 := pick_zero g
  have h1 := pick_one g hb
  have hne := pick_ne g
  have hle : g (pick g 1) ≤ g (pick g 0) := h0.le _
  unfold kMix
  rw [topOf_eq h0, posOf_eq h0, topOf_eq h1, posOf_eq h1, struck_eq, if_neg hne]
  have hmax : max ⊥ (Finset.univ.fold max ⊥ (chosen g)) = g (pick g 0) := by
    rw [max_eq_right bot_le]
    refine le_antisymm ((Finset.fold_max_le _).2 ⟨bot_le, fun r _ => h0.le _⟩) ?_
    exact (Finset.le_fold_max _).2 (Or.inr ⟨0, Finset.mem_univ _, le_rfl⟩)
  have e0 : expOf g 0 = 1 := by
    unfold expOf
    rw [hmax]
    show Ideal.exp (g (pick g 0) - g (pick g 0)) = 1
    rw [EReal.sub_self (ht _) (hb _)]
    show ((Real.exp 0 : ℝ) : EReal) = 1
    simp
  have e1 : expOf g 1 = Ideal.exp (g (pick g 1) - g (pick g 0)) := by
    unfold expOf
    rw [hmax]
    rfl
  unfold rMix
  rw [Fin.sum_univ_two, Fin.sum_univ_two, e0, e1]
  generalize Ideal.exp (g (pick g 1) - g (pick g 0)) = t
  show _ = Ideal.div 1 (1 + t) * y (pick g 0) + Ideal.div t (1 + t) * y (pick g 1)
  have hw : ∀ e, y e * weight (BitVec.ofNat 32 (pick g 0).val) (BitVec.ofNat 32 (pick g 1).val) t e
      = (if e = pick g 0 then y e * Ideal.div 1 (1 + t) else 0) + (if e = pick g 1 then y e * Ideal.div t (1 + t) else 0) := by
    intro e
    unfold weight
    rw [cmpi_small, cmpi_small, select_if, select_if]
    by_cases a : e = pick g 0
    · have b : e ≠ pick g 1 := fun h => hne (h.symm.trans a)
      rw [if_pos a, if_neg b, if_pos a, if_neg b, add_zero, add_zero]
    · by_cases b : e = pick g 1
      · rw [if_neg a, if_pos b, if_neg a, if_pos b, zero_add, zero_add]
      · rw [if_neg a, if_neg b, if_neg a, if_neg b, add_zero, mul_zero]
  rw [Finset.sum_congr rfl fun e _ => hw e, Finset.sum_add_distrib, Finset.sum_ite_eq' , Finset.sum_ite_eq',
    if_pos (Finset.mem_univ _), if_pos (Finset.mem_univ _), mul_comm, mul_comm (y (pick g 1))]

end Cert.Moe

end
-- ==== Proof.Equation.lean ====
/-
  The equation: on a real gate, the kernel's result is the reference's.
-/
module

public import proofs.«01_k».proof.Proof.Mix
public import proofs.«01_k».proof.Proof.Spectrum

@[expose] public section

noncomputable section

namespace Cert.Moe

open Idealize.ShloMosaic

theorem kOut_eq_rOut (c d : ℝ) (hc : c ≠ 0) (hd : d ≠ 0) (x : Fin 8192 → Fin 512 → EReal) (W : Fin 256 → Fin 8 → EReal)
    (b : Fin 8 → EReal) (We : Fin 8 → Fin 512 → Fin 96 → EReal) (be : Fin 8 → Fin 96 → EReal)
    (hW : ∀ k e, ∃ r : ℝ, W k e = r) (hb : ∀ e, ∃ r : ℝ, b e = r) (r : Fin 8192) (o : Fin 96) :
    kOut c x W b We be r o = rOut d x W b We be r o := by
  have hg : ∀ e, ∃ y : ℝ, gate (shares (kPower c (x r))) W b e = y :=
    fun e => gate_real (fun k => shares_real c hc (x r) k) hW hb e
  unfold kOut rOut
  rw [kMix_eq_rMix _ _ (fun e => ?_) (fun e => ?_), shares_eq c d hc hd]
  · obtain ⟨y, hy⟩ := hg e
    rw [hy]
    exact EReal.coe_ne_bot y
  · obtain ⟨y, hy⟩ := hg e
    rw [hy]
    exact EReal.coe_ne_top y

end Cert.Moe

end
-- ==== Proof.Finite.lean ====
/-
  What the precondition says: every entry of the gate's weights and of its bias is a real number.
-/
module

public import proofs.«01_k».proof.Proof.Gen.Pre_finite_gate
public import proofs.«01_k».proof.Proof.Words
public import Idealize.ShloMosaic.Lib.ReduceAll
public import Idealize.ShloMosaic.Lib.Pointwise

@[expose] public section

noncomputable section

namespace Cert.Pre_finite_gate.Hand

open Cert.Pre_finite_gate Cert.Pre_finite_gate.Gen Idealize.ShloMosaic

/-- A value whose absolute value is below +∞ is a real number. -/
theorem real_of_lt (a : EReal) (h : Ideal.cmp .olt (max a (-a)) (Ideal.ofBits .f32 2139095040#32) = 1#1) : ∃ r : ℝ, a = r := by
  have ht : Ideal.ofBits .f32 2139095040#32 = ⊤ := by simp [Ideal.ofBits, Ideal.ieee]
  rw [ht] at h
  induction a with
  | bot => simp [Ideal.cmp] at h
  | coe r => exact ⟨r, rfl⟩
  | top => simp [Ideal.cmp] at h

theorem real (x : FVec Ideal S8192x512 .f32) (Wg : FVec Ideal S256x8 .f32) (bg : FVec Ideal S8 .f32) (We : FVec Ideal S8x512x96 .f32)
    (be : FVec Ideal S8x96 .f32) (h : fn (F := Ideal) x Wg bg We be = fun _ => 1#1) :
    (∀ k e, ∃ r : ℝ, (Wg (ix2 k e) : EReal) = r) ∧ ∀ e, ∃ r : ℝ, (bg (ix1 e) : EReal) = r := by
  have h0 := congrFun h ix0
  dsimp only [fn] at h0
  obtain ⟨hW, hb⟩ := IntOp.andi_eq_one.1 h0
  haveI : Subsingleton S_.Idx := ⟨fun a b => funext fun i => i.elim0⟩
  exact ⟨fun k e => real_of_lt _ (Host.reduce_andi_all _ _ _ _ _ hW (ix2 k e)),
    fun e => real_of_lt _ (Host.reduce_andi_all _ _ _ _ _ hb (ix1 e))⟩

end Cert.Pre_finite_gate.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_gate
public import proofs.«01_k».proof.Proof.KernelValue
public import proofs.«01_k».proof.Proof.RefValue
public import proofs.«01_k».proof.Proof.Equation
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.StableHlo Idealize.SL.Sem

/-- The reference's result, of the arguments the kernel was given: the kernel's result. -/
theorem same (m : (ℓ : Loc Cert.KernelIdeal.nD Cert.KernelIdeal.τ Cert.KernelIdeal.sig) → Buf (Elt Ideal) ℓ) (c : Dev Cert.KernelIdeal.nD)
    (hpre : Cert.Pre_KernelIdeal_finite_gate m) (V0 : Valuation Cert.ReferenceIdeal.τ Cert.ReferenceIdeal.sig (Elt Ideal))
    (h0 : V0 (Proc.devRef .tc Cert.ReferenceIdeal.main_arg0) = m (c.tc.loc Cert.KernelIdeal.main_arg0))
    (h1 : V0 (Proc.devRef .tc Cert.ReferenceIdeal.main_arg1) = m (c.tc.loc Cert.KernelIdeal.main_arg1))
    (h2 : V0 (Proc.devRef .tc Cert.ReferenceIdeal.main_arg2) = m (c.tc.loc Cert.KernelIdeal.main_arg2))
    (h3 : V0 (Proc.devRef .tc Cert.ReferenceIdeal.main_arg3) = m (c.tc.loc Cert.KernelIdeal.main_arg3))
    (h4 : V0 (Proc.devRef .tc Cert.ReferenceIdeal.main_arg4) = m (c.tc.loc Cert.KernelIdeal.main_arg4)) :
    Cert.ReferenceIdeal.Hand.outcome V0
    = Cert.KernelIdeal.Hand.result (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) := by
  obtain ⟨hW, hb⟩ := Cert.Pre_finite_gate.Hand.real _ _ _ _ _ (hpre c)
  funext i
  unfold Cert.KernelIdeal.Hand.result Cert.ReferenceIdeal.Hand.outcome
  refine Eq.trans ?_ (Cert.Moe.kOut_eq_rOut _ _ Cert.KernelIdeal.Hand.scl_ne Cert.ReferenceIdeal.Hand.root_ne _ _ _ _ _ hW hb _ _).symm
  have e0 : Cert.ReferenceIdeal.Hand.X V0 = fun r s => m (c.tc.loc Cert.KernelIdeal.main_arg0) (ix2 r s) :=
    funext fun r => funext fun s => congrFun h0 (ix2 r s)
  have e1 : Cert.ReferenceIdeal.Hand.W V0 = fun k e => m (c.tc.loc Cert.KernelIdeal.main_arg1) (ix2 k e) :=
    funext fun k => funext fun e => congrFun h1 (ix2 k e)
  have e2 : Cert.ReferenceIdeal.Hand.B V0 = fun e => m (c.tc.loc Cert.KernelIdeal.main_arg2) (ix1 e) :=
    funext fun e => congrFun h2 (ix1 e)
  have e3 : Cert.ReferenceIdeal.Hand.We V0 = fun e s o => m (c.tc.loc Cert.KernelIdeal.main_arg3) (ix3 e s o) :=
    funext fun e => funext fun s => funext fun o => congrFun h3 (ix3 e s o)
  have e4 : Cert.ReferenceIdeal.Hand.Be V0 = fun e o => m (c.tc.loc Cert.KernelIdeal.main_arg4) (ix2 e o) :=
    funext fun e => funext fun o => congrFun h4 (ix2 e o)
  rw [e0, e1, e2, e3, e4]

/-- The reference's frame: its arguments are kept, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's run, its result named by the specification. -/
theorem run_reference (m' : (ℓ : Loc Cert.ReferenceIdeal.nD Cert.ReferenceIdeal.τ Cert.ReferenceIdeal.sig) → Buf (Elt Ideal) ℓ)
    (g' : Dev Cert.ReferenceIdeal.nD → PrngReg) :
    θ_run Cert.ReferenceIdeal.defs (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v63) = Cert.ReferenceIdeal.Hand.outcome (launchContents m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (Cert.ReferenceIdeal.Hand.value (launchContents m' c)), (h c).2⟩)
    (Cert.ReferenceIdeal.Value.run (F := Ideal) m' g')

/-- THE EQUATION OF THE PROGRAMS: from equal arguments with a finite gate, both end with the kernel's result. -/
theorem algebraic : Cert.algebraic_KernelIdeal_ReferenceIdeal_pre_finite_gate := by
  intro m g m' g' hpre hagree
  refine ⟨fun c => Cert.KernelIdeal.Hand.result (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4)), ?_, ?_⟩
  · exact (θ_run Cert.KernelIdeal.defs _ _).mono (fun _ h c => ⟨(h c).1.trans (Cert.KernelIdeal.Hand.value m c), (h c).2⟩)
      (Cert.KernelIdeal.Value.run_blocks m g)
  · exact (θ_run Cert.ReferenceIdeal.defs _ _).mono
      (fun _ h c => ⟨(h c).1.trans (same m c hpre (launchContents m' c) (hagree c).1 (hagree c).2.1 (hagree c).2.2.1 (hagree c).2.2.2.1
        (hagree c).2.2.2.2), (h c).2⟩)
      (run_reference m' g')

theorem claim : Cert.Claim := ⟨Cert.Kernel.Gen.facts, Cert.KernelIdeal.Gen.facts, Cert.ReferenceIdeal.Gen.facts, Cert.Pre_finite_gate.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  trivial,
  algebraic⟩

end Cert.Proof

end
